-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v118) = v0 c
          ∧ r.2.mem ((c.tc : Thread Cert.Reference4Ideal.nD Cert.Reference4Ideal.τ).loc Cert.Reference4Ideal.main_v119) = v1 c
          ∧ r.2.mem ((c.tc : Thread Cert.Reference4Ideal.nD Cert.Reference4Ideal.τ).loc Cert.Reference4Ideal.main_v120) = v2 c
          ∧ r.2.mem ((c.tc : Thread Cert.Reference4Ideal.nD Cert.Reference4Ideal.τ).loc Cert.Reference4Ideal.main_v121) = v3 c
          ∧ r.2.mem ((c.tc : Thread Cert.Reference4Ideal.nD Cert.Reference4Ideal.τ).loc Cert.Reference4Ideal.main_v122) = v4 c
          ∧ r.2.mem ((c.tc : Thread Cert.Reference4Ideal.nD Cert.Reference4Ideal.τ).loc Cert.Reference4Ideal.main_v123) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x1024x8192 : Shape := ⟨3, ![2, 1024, 8192]⟩
abbrev S2x512x8192 : Shape := ⟨3, ![2, 512, 8192]⟩
abbrev S2x8x8192 : Shape := ⟨3, ![2, 8, 8192]⟩
abbrev S2x8192x256 : Shape := ⟨3, ![2, 8192, 256]⟩
abbrev S2x8192x128 : Shape := ⟨3, ![2, 8192, 128]⟩
abbrev S2x16x320x512 : Shape := ⟨4, ![2, 16, 320, 512]⟩
abbrev S2x8192x1024 : Shape := ⟨3, ![2, 8192, 1024]⟩
abbrev S1x1024x128 : Shape := ⟨3, ![1, 1024, 128]⟩
abbrev S1x512x128 : Shape := ⟨3, ![1, 512, 128]⟩
abbrev S1x8x128 : Shape := ⟨3, ![1, 8, 128]⟩
abbrev S1x8192x256 : Shape := ⟨3, ![1, 8192, 256]⟩
abbrev S1x8192x128 : Shape := ⟨3, ![1, 8192, 128]⟩
abbrev S1x16x320x512 : Shape := ⟨4, ![1, 16, 320, 512]⟩
abbrev S1x128x1024 : Shape := ⟨3, ![1, 128, 1024]⟩
abbrev S8192x128 : Shape := ⟨2, ![8192, 128]⟩
abbrev S32x256x128 : Shape := ⟨3, ![32, 256, 128]⟩
abbrev S4x256x512 : Shape := ⟨3, ![4, 256, 512]⟩
abbrev S4x1x512 : Shape := ⟨3, ![4, 1, 512]⟩
abbrev S4x80x512 : Shape := ⟨3, ![4, 80, 512]⟩
abbrev S2x1x128 : Shape := ⟨3, ![2, 1, 128]⟩
abbrev S2x512x512 : Shape := ⟨3, ![2, 512, 512]⟩
abbrev S2x1x512 : Shape := ⟨3, ![2, 1, 512]⟩
abbrev S512x128 : Shape := ⟨2, ![512, 128]⟩
abbrev S1x128 : Shape := ⟨2, ![1, 128]⟩
abbrev S1024x128 : Shape := ⟨2, ![1024, 128]⟩
abbrev S128x512 : Shape := ⟨2, ![128, 512]⟩
abbrev S64x128 : Shape := ⟨2, ![64, 128]⟩
abbrev S64x512 : Shape := ⟨2, ![64, 512]⟩
abbrev S256x512 : Shape := ⟨2, ![256, 512]⟩
abbrev S1x256x512 : Shape := ⟨3, ![1, 256, 512]⟩
abbrev S64x1024 : Shape := ⟨2, ![64, 1024]⟩
abbrev S128x1024 : Shape := ⟨2, ![128, 1024]⟩
abbrev S8x128 : Shape := ⟨2, ![8, 128]⟩
abbrev S512x512 : Shape := ⟨2, ![512, 512]⟩
abbrev S1x512x512 : Shape := ⟨3, ![1, 512, 512]⟩
abbrev S512x256 : Shape := ⟨2, ![512, 256]⟩
abbrev S64x8x512 : Shape := ⟨3, ![64, 8, 512]⟩
abbrev S8x512 : Shape := ⟨2, ![8, 512]⟩
abbrev S512 : Shape := ⟨1, ![512]⟩
abbrev S1x512 : Shape := ⟨2, ![1, 512]⟩
abbrev S1x1x512 : Shape := ⟨3, ![1, 1, 512]⟩
abbrev S1x64x512 : Shape := ⟨3, ![1, 64, 512]⟩
abbrev S1x1x80x512 : Shape := ⟨4, ![1, 1, 80, 512]⟩
abbrev S80x512 : Shape := ⟨2, ![80, 512]⟩
abbrev S1x80x512 : Shape := ⟨3, ![1, 80, 512]⟩
abbrev S1x64x128 : Shape := ⟨3, ![1, 64, 128]⟩
abbrev S8x8x128 : Shape := ⟨3, ![8, 8, 128]⟩
abbrev S128 : Shape := ⟨1, ![128]⟩
abbrev S1x1x128 : Shape := ⟨3, ![1, 1, 128]⟩
abbrev S128x128 : Shape := ⟨2, ![128, 128]⟩
abbrev S1x128x128 : Shape := ⟨3, ![1, 128, 128]⟩
abbrev S16x8x128 : Shape := ⟨3, ![16, 8, 128]⟩
abbrev S192x128 : Shape := ⟨2, ![192, 128]⟩
abbrev S1x192x128 : Shape := ⟨3, ![1, 192, 128]⟩
abbrev S24x8x128 : Shape := ⟨3, ![24, 8, 128]⟩
abbrev S256x128 : Shape := ⟨2, ![256, 128]⟩
abbrev S1x256x128 : Shape := ⟨3, ![1, 256, 128]⟩
abbrev S32x8x128 : Shape := ⟨3, ![32, 8, 128]⟩
abbrev S1 : Shape := ⟨1, ![1]⟩
abbrev S1x1x1 : Shape := ⟨3, ![1, 1, 1]⟩
abbrev S64x8x128 : Shape := ⟨3, ![64, 8, 128]⟩

abbrev nBuf : Space → Nat
  | .hbm => 7
  | .vmem => 26
  | .smem => 0
  | _ => 0

abbrev bufTy : (tb : Table) → Fin (tcTables nBuf tb) → BufTy
  | .hbm, ⟨0, _⟩ => ⟨S2x1024x8192, .bf16⟩
  | .hbm, ⟨1, _⟩ => ⟨S2x512x8192, .bf16⟩
  | .hbm, ⟨2, _⟩ => ⟨S2x8x8192, .f32⟩
  | .hbm, ⟨3, _⟩ => ⟨S2x8192x256, .bf16⟩
  | .hbm, ⟨4, _⟩ => ⟨S2x8192x128, .bf16⟩
  | .hbm, ⟨5, _⟩ => ⟨S2x16x320x512, .bf16⟩
  | .hbm, ⟨6, _⟩ => ⟨S2x8192x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x8x128, .f32⟩
  | .local _ .vmem, ⟨5, _⟩ => ⟨S1x8x128, .f32⟩
  | .local _ .vmem, ⟨6, _⟩ => ⟨S1x8192x256, .bf16⟩
  | .local _ .vmem, ⟨7, _⟩ => ⟨S1x8192x256, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x16x320x512, .bf16⟩
  | .local _ .vmem, ⟨11, _⟩ => ⟨S1x16x320x512, .bf16⟩
  | .local _ .vmem, ⟨12, _⟩ => ⟨S1x128x1024, .bf16⟩
  | .local _ .vmem, ⟨13, _⟩ => ⟨S1x128x1024, .bf16⟩
  | .local _ .vmem, ⟨14, _⟩ => ⟨S8192x128, .i32⟩
  | .local _ .vmem, ⟨15, _⟩ => ⟨S32x256x128, .i32⟩
  | .local _ .vmem, ⟨16, _⟩ => ⟨S4x256x512, .bf16⟩
  | .local _ .vmem, ⟨17, _⟩ => ⟨S4x1x512, .f32⟩
  | .local _ .vmem, ⟨18, _⟩ => ⟨S4x80x512, .f32⟩
  | .local _ .vmem, ⟨19, _⟩ => ⟨S2x1x128, .i32⟩
  | .local _ .vmem, ⟨20, _⟩ => ⟨S2x512x512, .f32⟩
  | .local _ .vmem, ⟨21, _⟩ => ⟨S2x512x512, .bf16⟩
  | .local _ .vmem, ⟨22, _⟩ => ⟨S2x1x512, .f32⟩
  | .local _ .vmem, ⟨23, _⟩ => ⟨S8192x128, .bf16⟩
  | .local _ .vmem, ⟨24, _⟩ => ⟨S2x512x512, .f32⟩
  | .local _ .vmem, ⟨25, _⟩ => ⟨S512x128, .f32⟩
  | _, _ => ⟨S2x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![2, 65], ![false, false]⟩

def k0_mult1 : BitVec 32 :=
  let c0_i32_48 : BitVec 32 := 0#32
  c0_i32_48
def k0_mult2 : BitVec 32 :=
  let c0_i32_55 : BitVec 32 := 0#32
  c0_i32_55
def k0_mult3 : BitVec 32 :=
  let c0_i32_58 : BitVec 32 := 0#32
  c0_i32_58
@[reducible] def k0_t1_loop (i : grid0.Coords) : Scf.Loop 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_75 : BitVec 32 := 1#32
  ⟨c0_i32_73, v159, c1_i32_75⟩
def k0_mult4 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32 : BitVec 32 := 512#32
  let v226 : BitVec 32 := Scalar.muli arg21 c512_i32
  v226
def k0_off1 (i : grid0.Coords) (k0_t1 : Fin (k0_t1_loop i).trips) : Fin 3 → Nat :=
  let c0_111 : Index := 0#32
  let c0_i32_73 : BitVec 32 := 0#32
  let c1_i32_75 : BitVec 32 := 1#32
  let arg21 : BitVec 32 := Scf.iv c0_i32_73 c1_i32_75 k0_t1
  let c512_i32 : BitVec 32 := 512#32
  let v226 : BitVec 32 := Scalar.muli arg21 c512_i32
  let v227 : BitVec 32 := v226
  let v228 : Index := Scalar.indexCast v227
  let c0_112 : Index := 0#32
  ![0, v228.toNat, 0]
def k0_mult5 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_113 : BitVec 32 := 512#32
  let v231 : BitVec 32 := Scalar.muli arg21 c512_i32_113
  v231
def k0_off2 (i : grid0.Coords) (k0_t1 : Fin (k0_t1_loop i).trips) : Fin 2 → Nat :=
  let c0_i32_73 : BitVec 32 := 0#32
  let c1_i32_75 : BitVec 32 := 1#32
  let arg21 : BitVec 32 := Scf.iv c0_i32_73 c1_i32_75 k0_t1
  let c512_i32_113 : BitVec 32 := 512#32
  let v231 : BitVec 32 := Scalar.muli arg21 c512_i32_113
  let v232 : BitVec 32 := v231
  let v233 : Index := Scalar.indexCast v232
  let c0_114 : Index := 0#32
  ![v233.toNat, 0]
def k0_mult6 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_127 : BitVec 32 := 512#32
  let v249 : BitVec 32 := Scalar.muli arg21 c512_i32_127
  v249
def k0_off3 (i : grid0.Coords) (k0_t1 : Fin (k0_t1_loop i).trips) : Fin 3 → Nat :=
  let c0_128 : Index := 0#32
  let c0_i32_73 : BitVec 32 := 0#32
  let c1_i32_75 : BitVec 32 := 1#32
  let arg21 : BitVec 32 := Scf.iv c0_i32_73 c1_i32_75 k0_t1
  let c512_i32_127 : BitVec 32 := 512#32
  let v249 : BitVec 32 := Scalar.muli arg21 c512_i32_127
  let v250 : BitVec 32 := v249
  let v251 : Index := Scalar.indexCast v250
  let c0_129 : Index := 0#32
  ![0, v251.toNat, 0]
def k0_off4 (i : grid0.Coords) (k0_t1 : Fin (k0_t1_loop i).trips) : Fin 4 → Nat :=
  let c0_190 : Index := 0#32
  let c0_i32_73 : BitVec 32 := 0#32
  let c1_i32_75 : BitVec 32 := 1#32
  let arg21 : BitVec 32 := Scf.iv c0_i32_73 c1_i32_75 k0_t1
  let v368 : Index := Scalar.indexCast arg21
  let c0_191 : Index := 0#32
  let c0_192 : Index := 0#32
  ![0, v368.toNat, 0, 0]
def k0_mult7 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_206 : BitVec 32 := 512#32
  let v387 : BitVec 32 := Scalar.muli arg21 c512_i32_206
  v387
def k0_off5 (i : grid0.Coords) (k0_t1 : Fin (k0_t1_loop i).trips) : Fin 3 → Nat :=
  let c0_207 : Index := 0#32
  let c0_i32_73 : BitVec 32 := 0#32
  let c1_i32_75 : BitVec 32 := 1#32
  let arg21 : BitVec 32 := Scf.iv c0_i32_73 c1_i32_75 k0_t1
  let c512_i32_206 : BitVec 32 := 512#32
  let v387 : BitVec 32 := Scalar.muli arg21 c512_i32_206
  let v388 : BitVec 32 := v387
  let v389 : Index := Scalar.indexCast v388
  let c128_208 : Index := 128#32
  ![0, v389.toNat, 128]
def k0_mult8 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_209 : BitVec 32 := 512#32
  let v392 : BitVec 32 := Scalar.muli arg21 c512_i32_209
  v392
def k0_mult9 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c1_i32_223 : BitVec 32 := 1#32
  let v410 : BitVec 32 := Scalar.addi arg21 c1_i32_223
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_224 : BitVec 32 := 1#32
  let v411 : BitVec 32 := Scalar.subi v18 c1_i32_224
  let v412 : BitVec 32 := Scalar.minsi v410 v411
  let c512_i32_225 : BitVec 32 := 512#32
  let v413 : BitVec 32 := Scalar.muli v412 c512_i32_225
  v413
def k0_off6 (i : grid0.Coords) (k0_t1 : Fin (k0_t1_loop i).trips) : Fin 3 → Nat :=
  let c0_226 : Index := 0#32
  let c0_i32_73 : BitVec 32 := 0#32
  let c1_i32_75 : BitVec 32 := 1#32
  let arg21 : BitVec 32 := Scf.iv c0_i32_73 c1_i32_75 k0_t1
  let c1_i32_223 : BitVec 32 := 1#32
  let v410 : BitVec 32 := Scalar.addi arg21 c1_i32_223
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_224 : BitVec 32 := 1#32
  let v411 : BitVec 32 := Scalar.subi v18 c1_i32_224
  let v412 : BitVec 32 := Scalar.minsi v410 v411
  let c512_i32_225 : BitVec 32 := 512#32
  let v413 : BitVec 32 := Scalar.muli v412 c512_i32_225
  let v414 : BitVec 32 := v413
  let v415 : Index := Scalar.indexCast v414
  let c0_227 : Index := 0#32
  ![0, v415.toNat, 0]
def k0_mult10 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_245 : BitVec 32 := 512#32
  let v472 : BitVec 32 := Scalar.muli arg21 c512_i32_245
  v472
def k0_off7 (i : grid0.Coords) (k0_t1 : Fin (k0_t1_loop i).trips) : Fin 4 → Nat :=
  let c0_301 : Index := 0#32
  let c0_i32_73 : BitVec 32 := 0#32
  let c1_i32_75 : BitVec 32 := 1#32
  let arg21 : BitVec 32 := Scf.iv c0_i32_73 c1_i32_75 k0_t1
  let v555 : Index := Scalar.indexCast arg21
  let c80 : Index := 80#32
  let c0_302 : Index := 0#32
  ![0, v555.toNat, 80, 0]
def k0_mult11 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_316 : BitVec 32 := 512#32
  let v574 : BitVec 32 := Scalar.muli arg21 c512_i32_316
  v574
def k0_mult12 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_319 : BitVec 32 := 512#32
  let v579 : BitVec 32 := Scalar.muli arg21 c512_i32_319
  v579
def k0_mult13 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_333 : BitVec 32 := 512#32
  let v597 : BitVec 32 := Scalar.muli arg21 c512_i32_333
  let c0_i32_334 : BitVec 32 := 0#32
  let v598 : BitVec 32 := Scalar.addi v597 c0_i32_334
  v598
def k0_off8 (i : grid0.Coords) (k0_t1 : Fin (k0_t1_loop i).trips) (c0_i32_334 : BitVec 32) (c0_i32_335 : BitVec 32) : Fin 2 → Nat :=
  let c0_i32_73 : BitVec 32 := 0#32
  let c1_i32_75 : BitVec 32 := 1#32
  let arg21 : BitVec 32 := Scf.iv c0_i32_73 c1_i32_75 k0_t1
  let c512_i32_333 : BitVec 32 := 512#32
  let v597 : BitVec 32 := Scalar.muli arg21 c512_i32_333
  let v598 : BitVec 32 := Scalar.addi v597 c0_i32_334
  let v599 : BitVec 32 := v598
  let v600 : BitVec 32 := Scalar.addi v599 c0_i32_335
  let v601 : Index := Scalar.indexCast v600
  let c0_336 : Index := 0#32
  ![v601.toNat, 0]
def k0_mult14 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let c0_i32_404 : BitVec 32 := 0#32
  let v761 : BitVec 32 := Scalar.addi v760 c0_i32_404
  let c8_i32_405 : BitVec 32 := 8#32
  let v762 : BitVec 32 := Scalar.muli v761 c8_i32_405
  v762
def k0_off9 (i : grid0.Coords) (k0_t1 : Fin (k0_t1_loop i).trips) (c0_i32_404 : BitVec 32) : Fin 3 → Nat :=
  let c0_641 : Index := 0#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1484 : Index := Scalar.indexCast v763
  let c0_642 : Index := 0#32
  ![0, v1484.toNat, 0]
def k0_off10 (i : grid0.Coords) (k0_t1 : Fin (k0_t1_loop i).trips) (c0_i32_404 : BitVec 32) : Fin 3 → Nat :=
  let c1_643 : Index := 1#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1488 : Index := Scalar.indexCast v763
  let c0_644 : Index := 0#32
  ![1, v1488.toNat, 0]
def k0_off11 (i : grid0.Coords) (k0_t1 : Fin (k0_t1_loop i).trips) (c0_i32_404 : BitVec 32) : Fin 3 → Nat :=
  let c2_645 : Index := 2#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1492 : Index := Scalar.indexCast v763
  let c0_646 : Index := 0#32
  ![2, v1492.toNat, 0]
def k0_off12 (i : grid0.Coords) (k0_t1 : Fin (k0_t1_loop i).trips) (c0_i32_404 : BitVec 32) : Fin 3 → Nat :=
  let c3_647 : Index := 3#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1496 : Index := Scalar.indexCast v763
  let c0_648 : Index := 0#32
  ![3, v1496.toNat, 0]
def k0_off13 (i : grid0.Coords) (k0_t1 : Fin (k0_t1_loop i).trips) (c0_i32_404 : BitVec 32) : Fin 3 → Nat :=
  let c4 : Index := 4#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1500 : Index := Scalar.indexCast v763
  let c0_649 : Index := 0#32
  ![4, v1500.toNat, 0]
def k0_off14 (i : grid0.Coords) (k0_t1 : Fin (k0_t1_loop i).trips) (c0_i32_404 : BitVec 32) : Fin 3 → Nat :=
  let c5 : Index := 5#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1504 : Index := Scalar.indexCast v763
  let c0_650 : Index := 0#32
  ![5, v1504.toNat, 0]
def k0_off15 (i : grid0.Coords) (k0_t1 : Fin (k0_t1_loop i).trips) (c0_i32_404 : BitVec 32) : Fin 3 → Nat :=
  let c6 : Index := 6#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1508 : Index := Scalar.indexCast v763
  let c0_651 : Index := 0#32
  ![6, v1508.toNat, 0]
def k0_off16 (i : grid0.Coords) (k0_t1 : Fin (k0_t1_loop i).trips) (c0_i32_404 : BitVec 32) : Fin 3 → Nat :=
  let c7 : Index := 7#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1512 : Index := Scalar.indexCast v763
  let c0_652 : Index := 0#32
  ![7, v1512.toNat, 0]
def k0_off17 (i : grid0.Coords) (k0_t1 : Fin (k0_t1_loop i).trips) (c0_i32_404 : BitVec 32) : Fin 3 → Nat :=
  let c8 : Index := 8#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1516 : Index := Scalar.indexCast v763
  let c0_653 : Index := 0#32
  ![8, v1516.toNat, 0]
def k0_off18 (i : grid0.Coords) (k0_t1 : Fin (k0_t1_loop i).trips) (c0_i32_404 : BitVec 32) : Fin 3 → Nat :=
  let c9 : Index := 9#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1520 : Index := Scalar.indexCast v763
  let c0_654 : Index := 0#32
  ![9, v1520.toNat, 0]
def k0_off19 (i : grid0.Coords) (k0_t1 : Fin (k0_t1_loop i).trips) (c0_i32_404 : BitVec 32) : Fin 3 → Nat :=
  let c10 : Index := 10#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1524 : Index := Scalar.indexCast v763
  let c0_655 : Index := 0#32
  ![10, v1524.toNat, 0]
def k0_off20 (i : grid0.Coords) (k0_t1 : Fin (k0_t1_loop i).trips) (c0_i32_404 : BitVec 32) : Fin 3 → Nat :=
  let c11 : Index := 11#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1528 : Index := Scalar.indexCast v763
  let c0_656 : Index := 0#32
  ![11, v1528.toNat, 0]
def k0_off21 (i : grid0.Coords) (k0_t1 : Fin (k0_t1_loop i).trips) (c0_i32_404 : BitVec 32) : Fin 3 → Nat :=
  let c12 : Index := 12#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1532 : Index := Scalar.indexCast v763
  let c0_657 : Index := 0#32
  ![12, v1532.toNat, 0]
def k0_off22 (i : grid0.Coords) (k0_t1 : Fin (k0_t1_loop i).trips) (c0_i32_404 : BitVec 32) : Fin 3 → Nat :=
  let c13 : Index := 13#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1536 : Index := Scalar.indexCast v763
  let c0_658 : Index := 0#32
  ![13, v1536.toNat, 0]
def k0_off23 (i : grid0.Coords) (k0_t1 : Fin (k0_t1_loop i).trips) (c0_i32_404 : BitVec 32) : Fin 3 → Nat :=
  let c14 : Index := 14#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1540 : Index := Scalar.indexCast v763
  let c0_659 : Index := 0#32
  ![14, v1540.toNat, 0]
def k0_off24 (i : grid0.Coords) (k0_t1 : Fin (k0_t1_loop i).trips) (c0_i32_404 : BitVec 32) : Fin 3 → Nat :=
  let c15 : Index := 15#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1544 : Index := Scalar.indexCast v763
  let c0_660 : Index := 0#32
  ![15, v1544.toNat, 0]
def k0_off25 (i : grid0.Coords) (k0_t1 : Fin (k0_t1_loop i).trips) (c0_i32_404 : BitVec 32) : Fin 3 → Nat :=
  let c16 : Index := 16#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1548 : Index := Scalar.indexCast v763
  let c0_661 : Index := 0#32
  ![16, v1548.toNat, 0]
def k0_off26 (i : grid0.Coords) (k0_t1 : Fin (k0_t1_loop i).trips) (c0_i32_404 : BitVec 32) : Fin 3 → Nat :=
  let c17 : Index := 17#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1552 : Index := Scalar.indexCast v763
  let c0_662 : Index := 0#32
  ![17, v1552.toNat, 0]
def k0_off27 (i : grid0.Coords) (k0_t1 : Fin (k0_t1_loop i).trips) (c0_i32_404 : BitVec 32) : Fin 3 → Nat :=
  let c18 : Index := 18#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1556 : Index := Scalar.indexCast v763
  let c0_663 : Index := 0#32
  ![18, v1556.toNat, 0]
def k0_off28 (i : grid0.Coords) (k0_t1 : Fin (k0_t1_loop i).trips) (c0_i32_404 : BitVec 32) : Fin 3 → Nat :=
  let c19 : Index := 19#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1560 : Index := Scalar.indexCast v763
  let c0_664 : Index := 0#32
  ![19, v1560.toNat, 0]
def k0_off29 (i : grid0.Coords) (k0_t1 : Fin (k0_t1_loop i).trips) (c0_i32_404 : BitVec 32) : Fin 3 → Nat :=
  let c20 : Index := 20#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1564 : Index := Scalar.indexCast v763
  let c0_665 : Index := 0#32
  ![20, v1564.toNat, 0]
def k0_off30 (i : grid0.Coords) (k0_t1 : Fin (k0_t1_loop i).trips) (c0_i32_404 : BitVec 32) : Fin 3 → Nat :=
  let c21 : Index := 21#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1568 : Index := Scalar.indexCast v763
  let c0_666 : Index := 0#32
  ![21, v1568.toNat, 0]
def k0_off31 (i : grid0.Coords) (k0_t1 : Fin (k0_t1_loop i).trips) (c0_i32_404 : BitVec 32) : Fin 3 → Nat :=
  let c22 : Index := 22#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1572 : Index := Scalar.indexCast v763
  let c0_667 : Index := 0#32
  ![22, v1572.toNat, 0]
def k0_off32 (i : grid0.Coords) (k0_t1 : Fin (k0_t1_loop i).trips) (c0_i32_404 : BitVec 32) : Fin 3 → Nat :=
  let c23 : Index := 23#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1576 : Index := Scalar.indexCast v763
  let c0_668 : Index := 0#32
  ![23, v1576.toNat, 0]
def k0_off33 (i : grid0.Coords) (k0_t1 : Fin (k0_t1_loop i).trips) (c0_i32_404 : BitVec 32) : Fin 3 → Nat :=
  let c24 : Index := 24#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1580 : Index := Scalar.indexCast v763
  let c0_669 : Index := 0#32
  ![24, v1580.toNat, 0]
def k0_off34 (i : grid0.Coords) (k0_t1 : Fin (k0_t1_loop i).trips) (c0_i32_404 : BitVec 32) : Fin 3 → Nat :=
  let c25 : Index := 25#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1584 : Index := Scalar.indexCast v763
  let c0_670 : Index := 0#32
  ![25, v1584.toNat, 0]
def k0_off35 (i : grid0.Coords) (k0_t1 : Fin (k0_t1_loop i).trips) (c0_i32_404 : BitVec 32) : Fin 3 → Nat :=
  let c26 : Index := 26#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1588 : Index := Scalar.indexCast v763
  let c0_671 : Index := 0#32
  ![26, v1588.toNat, 0]
def k0_off36 (i : grid0.Coords) (k0_t1 : Fin (k0_t1_loop i).trips) (c0_i32_404 : BitVec 32) : Fin 3 → Nat :=
  let c27 : Index := 27#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1592 : Index := Scalar.indexCast v763
  let c0_672 : Index := 0#32
  ![27, v1592.toNat, 0]
def k0_off37 (i : grid0.Coords) (k0_t1 : Fin (k0_t1_loop i).trips) (c0_i32_404 : BitVec 32) : Fin 3 → Nat :=
  let c28 : Index := 28#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1596 : Index := Scalar.indexCast v763
  let c0_673 : Index := 0#32
  ![28, v1596.toNat, 0]
def k0_off38 (i : grid0.Coords) (k0_t1 : Fin (k0_t1_loop i).trips) (c0_i32_404 : BitVec 32) : Fin 3 → Nat :=
  let c29 : Index := 29#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1600 : Index := Scalar.indexCast v763
  let c0_674 : Index := 0#32
  ![29, v1600.toNat, 0]
def k0_off39 (i : grid0.Coords) (k0_t1 : Fin (k0_t1_loop i).trips) (c0_i32_404 : BitVec 32) : Fin 3 → Nat :=
  let c30 : Index := 30#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1604 : Index := Scalar.indexCast v763
  let c0_675 : Index := 0#32
  ![30, v1604.toNat, 0]
def k0_off40 (i : grid0.Coords) (k0_t1 : Fin (k0_t1_loop i).trips) (c0_i32_404 : BitVec 32) : Fin 3 → Nat :=
  let c31 : Index := 31#32
  let c0_i32_73 : BitVec 32 := 0#32
  let c1_i32_75 : BitVec 32 := 1#32
  let arg21 : BitVec 32 := Scf.iv c0_i32_73 c1_i32_75 k0_t1
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1608 : Index := Scalar.indexCast v763
  let c0_676 : Index := 0#32
  ![31, v1608.toNat, 0]
def k0_off41 (i : grid0.Coords) (k0_t1 : Fin (k0_t1_loop i).trips) : Fin 4 → Nat :=
  let c0_731 : Index := 0#32
  let c0_i32_73 : BitVec 32 := 0#32
  let c1_i32_75 : BitVec 32 := 1#32
  let arg21 : BitVec 32 := Scf.iv c0_i32_73 c1_i32_75 k0_t1
  let v1689 : Index := Scalar.indexCast arg21
  let c160 : Index := 160#32
  let c0_732 : Index := 0#32
  ![0, v1689.toNat, 160, 0]
def k0_mult15 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c1_i32_746 : BitVec 32 := 1#32
  let v1708 : BitVec 32 := Scalar.addi arg21 c1_i32_746
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c1_i32_747 : BitVec 32 := 1#32
  let v1709 : BitVec 32 := Scalar.subi v37 c1_i32_747
  let v1710 : BitVec 32 := Scalar.minsi v1708 v1709
  let c512_i32_748 : BitVec 32 := 512#32
  let v1711 : BitVec 32 := Scalar.muli v1710 c512_i32_748
  v1711
def k0_off42 (i : grid0.Coords) (k0_t1 : Fin (k0_t1_loop i).trips) : Fin 3 → Nat :=
  let c0_749 : Index := 0#32
  let c0_i32_73 : BitVec 32 := 0#32
  let c1_i32_75 : BitVec 32 := 1#32
  let arg21 : BitVec 32 := Scf.iv c0_i32_73 c1_i32_75 k0_t1
  let c1_i32_746 : BitVec 32 := 1#32
  let v1708 : BitVec 32 := Scalar.addi arg21 c1_i32_746
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c1_i32_747 : BitVec 32 := 1#32
  let v1709 : BitVec 32 := Scalar.subi v37 c1_i32_747
  let v1710 : BitVec 32 := Scalar.minsi v1708 v1709
  let c512_i32_748 : BitVec 32 := 512#32
  let v1711 : BitVec 32 := Scalar.muli v1710 c512_i32_748
  let v1712 : BitVec 32 := v1711
  let v1713 : Index := Scalar.indexCast v1712
  let c0_750 : Index := 0#32
  ![0, v1713.toNat, 0]
def k0_mult16 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c1_i32_746 : BitVec 32 := 1#32
  let v1708 : BitVec 32 := Scalar.addi arg21 c1_i32_746
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c1_i32_747 : BitVec 32 := 1#32
  let v1709 : BitVec 32 := Scalar.subi v37 c1_i32_747
  let v1710 : BitVec 32 := Scalar.minsi v1708 v1709
  let c512_i32_751 : BitVec 32 := 512#32
  let v1716 : BitVec 32 := Scalar.muli v1710 c512_i32_751
  v1716
def k0_off43 (i : grid0.Coords) (k0_t1 : Fin (k0_t1_loop i).trips) : Fin 2 → Nat :=
  let c0_i32_73 : BitVec 32 := 0#32
  let c1_i32_75 : BitVec 32 := 1#32
  let arg21 : BitVec 32 := Scf.iv c0_i32_73 c1_i32_75 k0_t1
  let c1_i32_746 : BitVec 32 := 1#32
  let v1708 : BitVec 32 := Scalar.addi arg21 c1_i32_746
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c1_i32_747 : BitVec 32 := 1#32
  let v1709 : BitVec 32 := Scalar.subi v37 c1_i32_747
  let v1710 : BitVec 32 := Scalar.minsi v1708 v1709
  let c512_i32_751 : BitVec 32 := 512#32
  let v1716 : BitVec 32 := Scalar.muli v1710 c512_i32_751
  let v1717 : BitVec 32 := v1716
  let v1718 : Index := Scalar.indexCast v1717
  let c0_752 : Index := 0#32
  ![v1718.toNat, 0]
def k0_mult17 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_765 : BitVec 32 := 512#32
  let v1734 : BitVec 32 := Scalar.muli arg21 c512_i32_765
  let c256_i32_766 : BitVec 32 := 256#32
  let v1735 : BitVec 32 := Scalar.addi v1734 c256_i32_766
  v1735
def k0_mult18 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c2_i32_863 : BitVec 32 := 2#32
  let v1897 : BitVec 32 := Scalar.muli arg21 c2_i32_863
  let c1_i32_864 : BitVec 32 := 1#32
  let v1898 : BitVec 32 := Scalar.addi v1897 c1_i32_864
  let c8_i32_865 : BitVec 32 := 8#32
  let v1899 : BitVec 32 := Scalar.muli v1898 c8_i32_865
  v1899
def k0_off44 (i : grid0.Coords) (k0_t1 : Fin (k0_t1_loop i).trips) : Fin 4 → Nat :=
  let c0_1224 : Index := 0#32
  let c0_i32_73 : BitVec 32 := 0#32
  let c1_i32_75 : BitVec 32 := 1#32
  let arg21 : BitVec 32 := Scf.iv c0_i32_73 c1_i32_75 k0_t1
  let v2826 : Index := Scalar.indexCast arg21
  let c240 : Index := 240#32
  let c0_1225 : Index := 0#32
  ![0, v2826.toNat, 240, 0]
@[reducible] def k0_t2_loop (i : grid0.Coords) : Scf.Loop 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let v156 : BitVec 32 := Scalar.addi c0_i32_73 v155
  let c1_i32_76 : BitVec 32 := 1#32
  ⟨v159, v156, c1_i32_76⟩
def k0_mult19 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32 : BitVec 32 := 512#32
  let v226 : BitVec 32 := Scalar.muli arg21 c512_i32
  v226
def k0_off45 (i : grid0.Coords) (k0_t2 : Fin (k0_t2_loop i).trips) : Fin 3 → Nat :=
  let c0_111 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32 : BitVec 32 := 512#32
  let v226 : BitVec 32 := Scalar.muli arg21 c512_i32
  let v227 : BitVec 32 := v226
  let v228 : Index := Scalar.indexCast v227
  let c0_112 : Index := 0#32
  ![0, v228.toNat, 0]
def k0_mult20 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_113 : BitVec 32 := 512#32
  let v231 : BitVec 32 := Scalar.muli arg21 c512_i32_113
  v231
def k0_off46 (i : grid0.Coords) (k0_t2 : Fin (k0_t2_loop i).trips) : Fin 2 → Nat :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_113 : BitVec 32 := 512#32
  let v231 : BitVec 32 := Scalar.muli arg21 c512_i32_113
  let v232 : BitVec 32 := v231
  let v233 : Index := Scalar.indexCast v232
  let c0_114 : Index := 0#32
  ![v233.toNat, 0]
def k0_mult21 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_127 : BitVec 32 := 512#32
  let v249 : BitVec 32 := Scalar.muli arg21 c512_i32_127
  v249
def k0_off47 (i : grid0.Coords) (k0_t2 : Fin (k0_t2_loop i).trips) : Fin 3 → Nat :=
  let c0_128 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_127 : BitVec 32 := 512#32
  let v249 : BitVec 32 := Scalar.muli arg21 c512_i32_127
  let v250 : BitVec 32 := v249
  let v251 : Index := Scalar.indexCast v250
  let c0_129 : Index := 0#32
  ![0, v251.toNat, 0]
def k0_off48 (i : grid0.Coords) (k0_t2 : Fin (k0_t2_loop i).trips) : Fin 4 → Nat :=
  let c0_190 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let v368 : Index := Scalar.indexCast arg21
  let c0_191 : Index := 0#32
  let c0_192 : Index := 0#32
  ![0, v368.toNat, 0, 0]
def k0_mult22 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_206 : BitVec 32 := 512#32
  let v387 : BitVec 32 := Scalar.muli arg21 c512_i32_206
  v387
def k0_off49 (i : grid0.Coords) (k0_t2 : Fin (k0_t2_loop i).trips) : Fin 3 → Nat :=
  let c0_207 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_206 : BitVec 32 := 512#32
  let v387 : BitVec 32 := Scalar.muli arg21 c512_i32_206
  let v388 : BitVec 32 := v387
  let v389 : Index := Scalar.indexCast v388
  let c128_208 : Index := 128#32
  ![0, v389.toNat, 128]
def k0_mult23 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_209 : BitVec 32 := 512#32
  let v392 : BitVec 32 := Scalar.muli arg21 c512_i32_209
  v392
def k0_mult24 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c1_i32_223 : BitVec 32 := 1#32
  let v410 : BitVec 32 := Scalar.addi arg21 c1_i32_223
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_224 : BitVec 32 := 1#32
  let v411 : BitVec 32 := Scalar.subi v18 c1_i32_224
  let v412 : BitVec 32 := Scalar.minsi v410 v411
  let c512_i32_225 : BitVec 32 := 512#32
  let v413 : BitVec 32 := Scalar.muli v412 c512_i32_225
  v413
def k0_off50 (i : grid0.Coords) (k0_t2 : Fin (k0_t2_loop i).trips) : Fin 3 → Nat :=
  let c0_226 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c1_i32_223 : BitVec 32 := 1#32
  let v410 : BitVec 32 := Scalar.addi arg21 c1_i32_223
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_224 : BitVec 32 := 1#32
  let v411 : BitVec 32 := Scalar.subi v18 c1_i32_224
  let v412 : BitVec 32 := Scalar.minsi v410 v411
  let c512_i32_225 : BitVec 32 := 512#32
  let v413 : BitVec 32 := Scalar.muli v412 c512_i32_225
  let v414 : BitVec 32 := v413
  let v415 : Index := Scalar.indexCast v414
  let c0_227 : Index := 0#32
  ![0, v415.toNat, 0]
def k0_mult25 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_245 : BitVec 32 := 512#32
  let v472 : BitVec 32 := Scalar.muli arg21 c512_i32_245
  v472
def k0_off51 (i : grid0.Coords) (k0_t2 : Fin (k0_t2_loop i).trips) : Fin 4 → Nat :=
  let c0_301 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let v555 : Index := Scalar.indexCast arg21
  let c80 : Index := 80#32
  let c0_302 : Index := 0#32
  ![0, v555.toNat, 80, 0]
def k0_mult26 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_316 : BitVec 32 := 512#32
  let v574 : BitVec 32 := Scalar.muli arg21 c512_i32_316
  v574
def k0_mult27 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_319 : BitVec 32 := 512#32
  let v579 : BitVec 32 := Scalar.muli arg21 c512_i32_319
  v579
def k0_mult28 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_333 : BitVec 32 := 512#32
  let v597 : BitVec 32 := Scalar.muli arg21 c512_i32_333
  let c0_i32_334 : BitVec 32 := 0#32
  let v598 : BitVec 32 := Scalar.addi v597 c0_i32_334
  v598
def k0_off52 (i : grid0.Coords) (k0_t2 : Fin (k0_t2_loop i).trips) (c0_i32_334 : BitVec 32) (c0_i32_335 : BitVec 32) : Fin 2 → Nat :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_333 : BitVec 32 := 512#32
  let v597 : BitVec 32 := Scalar.muli arg21 c512_i32_333
  let v598 : BitVec 32 := Scalar.addi v597 c0_i32_334
  let v599 : BitVec 32 := v598
  let v600 : BitVec 32 := Scalar.addi v599 c0_i32_335
  let v601 : Index := Scalar.indexCast v600
  let c0_336 : Index := 0#32
  ![v601.toNat, 0]
def k0_mult29 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let c0_i32_404 : BitVec 32 := 0#32
  let v761 : BitVec 32 := Scalar.addi v760 c0_i32_404
  let c8_i32_405 : BitVec 32 := 8#32
  let v762 : BitVec 32 := Scalar.muli v761 c8_i32_405
  v762
def k0_off53 (i : grid0.Coords) (k0_t2 : Fin (k0_t2_loop i).trips) (c0_i32_404 : BitVec 32) : Fin 3 → Nat :=
  let c0_641 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1484 : Index := Scalar.indexCast v763
  let c0_642 : Index := 0#32
  ![0, v1484.toNat, 0]
def k0_off54 (i : grid0.Coords) (k0_t2 : Fin (k0_t2_loop i).trips) (c0_i32_404 : BitVec 32) : Fin 3 → Nat :=
  let c1_643 : Index := 1#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1488 : Index := Scalar.indexCast v763
  let c0_644 : Index := 0#32
  ![1, v1488.toNat, 0]
def k0_off55 (i : grid0.Coords) (k0_t2 : Fin (k0_t2_loop i).trips) (c0_i32_404 : BitVec 32) : Fin 3 → Nat :=
  let c2_645 : Index := 2#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1492 : Index := Scalar.indexCast v763
  let c0_646 : Index := 0#32
  ![2, v1492.toNat, 0]
def k0_off56 (i : grid0.Coords) (k0_t2 : Fin (k0_t2_loop i).trips) (c0_i32_404 : BitVec 32) : Fin 3 → Nat :=
  let c3_647 : Index := 3#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1496 : Index := Scalar.indexCast v763
  let c0_648 : Index := 0#32
  ![3, v1496.toNat, 0]
def k0_off57 (i : grid0.Coords) (k0_t2 : Fin (k0_t2_loop i).trips) (c0_i32_404 : BitVec 32) : Fin 3 → Nat :=
  let c4 : Index := 4#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1500 : Index := Scalar.indexCast v763
  let c0_649 : Index := 0#32
  ![4, v1500.toNat, 0]
def k0_off58 (i : grid0.Coords) (k0_t2 : Fin (k0_t2_loop i).trips) (c0_i32_404 : BitVec 32) : Fin 3 → Nat :=
  let c5 : Index := 5#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1504 : Index := Scalar.indexCast v763
  let c0_650 : Index := 0#32
  ![5, v1504.toNat, 0]
def k0_off59 (i : grid0.Coords) (k0_t2 : Fin (k0_t2_loop i).trips) (c0_i32_404 : BitVec 32) : Fin 3 → Nat :=
  let c6 : Index := 6#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1508 : Index := Scalar.indexCast v763
  let c0_651 : Index := 0#32
  ![6, v1508.toNat, 0]
def k0_off60 (i : grid0.Coords) (k0_t2 : Fin (k0_t2_loop i).trips) (c0_i32_404 : BitVec 32) : Fin 3 → Nat :=
  let c7 : Index := 7#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1512 : Index := Scalar.indexCast v763
  let c0_652 : Index := 0#32
  ![7, v1512.toNat, 0]
def k0_off61 (i : grid0.Coords) (k0_t2 : Fin (k0_t2_loop i).trips) (c0_i32_404 : BitVec 32) : Fin 3 → Nat :=
  let c8 : Index := 8#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1516 : Index := Scalar.indexCast v763
  let c0_653 : Index := 0#32
  ![8, v1516.toNat, 0]
def k0_off62 (i : grid0.Coords) (k0_t2 : Fin (k0_t2_loop i).trips) (c0_i32_404 : BitVec 32) : Fin 3 → Nat :=
  let c9 : Index := 9#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1520 : Index := Scalar.indexCast v763
  let c0_654 : Index := 0#32
  ![9, v1520.toNat, 0]
def k0_off63 (i : grid0.Coords) (k0_t2 : Fin (k0_t2_loop i).trips) (c0_i32_404 : BitVec 32) : Fin 3 → Nat :=
  let c10 : Index := 10#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1524 : Index := Scalar.indexCast v763
  let c0_655 : Index := 0#32
  ![10, v1524.toNat, 0]
def k0_off64 (i : grid0.Coords) (k0_t2 : Fin (k0_t2_loop i).trips) (c0_i32_404 : BitVec 32) : Fin 3 → Nat :=
  let c11 : Index := 11#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1528 : Index := Scalar.indexCast v763
  let c0_656 : Index := 0#32
  ![11, v1528.toNat, 0]
def k0_off65 (i : grid0.Coords) (k0_t2 : Fin (k0_t2_loop i).trips) (c0_i32_404 : BitVec 32) : Fin 3 → Nat :=
  let c12 : Index := 12#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1532 : Index := Scalar.indexCast v763
  let c0_657 : Index := 0#32
  ![12, v1532.toNat, 0]
def k0_off66 (i : grid0.Coords) (k0_t2 : Fin (k0_t2_loop i).trips) (c0_i32_404 : BitVec 32) : Fin 3 → Nat :=
  let c13 : Index := 13#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1536 : Index := Scalar.indexCast v763
  let c0_658 : Index := 0#32
  ![13, v1536.toNat, 0]
def k0_off67 (i : grid0.Coords) (k0_t2 : Fin (k0_t2_loop i).trips) (c0_i32_404 : BitVec 32) : Fin 3 → Nat :=
  let c14 : Index := 14#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1540 : Index := Scalar.indexCast v763
  let c0_659 : Index := 0#32
  ![14, v1540.toNat, 0]
def k0_off68 (i : grid0.Coords) (k0_t2 : Fin (k0_t2_loop i).trips) (c0_i32_404 : BitVec 32) : Fin 3 → Nat :=
  let c15 : Index := 15#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1544 : Index := Scalar.indexCast v763
  let c0_660 : Index := 0#32
  ![15, v1544.toNat, 0]
def k0_off69 (i : grid0.Coords) (k0_t2 : Fin (k0_t2_loop i).trips) (c0_i32_404 : BitVec 32) : Fin 3 → Nat :=
  let c16 : Index := 16#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1548 : Index := Scalar.indexCast v763
  let c0_661 : Index := 0#32
  ![16, v1548.toNat, 0]
def k0_off70 (i : grid0.Coords) (k0_t2 : Fin (k0_t2_loop i).trips) (c0_i32_404 : BitVec 32) : Fin 3 → Nat :=
  let c17 : Index := 17#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1552 : Index := Scalar.indexCast v763
  let c0_662 : Index := 0#32
  ![17, v1552.toNat, 0]
def k0_off71 (i : grid0.Coords) (k0_t2 : Fin (k0_t2_loop i).trips) (c0_i32_404 : BitVec 32) : Fin 3 → Nat :=
  let c18 : Index := 18#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1556 : Index := Scalar.indexCast v763
  let c0_663 : Index := 0#32
  ![18, v1556.toNat, 0]
def k0_off72 (i : grid0.Coords) (k0_t2 : Fin (k0_t2_loop i).trips) (c0_i32_404 : BitVec 32) : Fin 3 → Nat :=
  let c19 : Index := 19#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1560 : Index := Scalar.indexCast v763
  let c0_664 : Index := 0#32
  ![19, v1560.toNat, 0]
def k0_off73 (i : grid0.Coords) (k0_t2 : Fin (k0_t2_loop i).trips) (c0_i32_404 : BitVec 32) : Fin 3 → Nat :=
  let c20 : Index := 20#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1564 : Index := Scalar.indexCast v763
  let c0_665 : Index := 0#32
  ![20, v1564.toNat, 0]
def k0_off74 (i : grid0.Coords) (k0_t2 : Fin (k0_t2_loop i).trips) (c0_i32_404 : BitVec 32) : Fin 3 → Nat :=
  let c21 : Index := 21#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1568 : Index := Scalar.indexCast v763
  let c0_666 : Index := 0#32
  ![21, v1568.toNat, 0]
def k0_off75 (i : grid0.Coords) (k0_t2 : Fin (k0_t2_loop i).trips) (c0_i32_404 : BitVec 32) : Fin 3 → Nat :=
  let c22 : Index := 22#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1572 : Index := Scalar.indexCast v763
  let c0_667 : Index := 0#32
  ![22, v1572.toNat, 0]
def k0_off76 (i : grid0.Coords) (k0_t2 : Fin (k0_t2_loop i).trips) (c0_i32_404 : BitVec 32) : Fin 3 → Nat :=
  let c23 : Index := 23#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1576 : Index := Scalar.indexCast v763
  let c0_668 : Index := 0#32
  ![23, v1576.toNat, 0]
def k0_off77 (i : grid0.Coords) (k0_t2 : Fin (k0_t2_loop i).trips) (c0_i32_404 : BitVec 32) : Fin 3 → Nat :=
  let c24 : Index := 24#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1580 : Index := Scalar.indexCast v763
  let c0_669 : Index := 0#32
  ![24, v1580.toNat, 0]
def k0_off78 (i : grid0.Coords) (k0_t2 : Fin (k0_t2_loop i).trips) (c0_i32_404 : BitVec 32) : Fin 3 → Nat :=
  let c25 : Index := 25#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1584 : Index := Scalar.indexCast v763
  let c0_670 : Index := 0#32
  ![25, v1584.toNat, 0]
def k0_off79 (i : grid0.Coords) (k0_t2 : Fin (k0_t2_loop i).trips) (c0_i32_404 : BitVec 32) : Fin 3 → Nat :=
  let c26 : Index := 26#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1588 : Index := Scalar.indexCast v763
  let c0_671 : Index := 0#32
  ![26, v1588.toNat, 0]
def k0_off80 (i : grid0.Coords) (k0_t2 : Fin (k0_t2_loop i).trips) (c0_i32_404 : BitVec 32) : Fin 3 → Nat :=
  let c27 : Index := 27#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1592 : Index := Scalar.indexCast v763
  let c0_672 : Index := 0#32
  ![27, v1592.toNat, 0]
def k0_off81 (i : grid0.Coords) (k0_t2 : Fin (k0_t2_loop i).trips) (c0_i32_404 : BitVec 32) : Fin 3 → Nat :=
  let c28 : Index := 28#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1596 : Index := Scalar.indexCast v763
  let c0_673 : Index := 0#32
  ![28, v1596.toNat, 0]
def k0_off82 (i : grid0.Coords) (k0_t2 : Fin (k0_t2_loop i).trips) (c0_i32_404 : BitVec 32) : Fin 3 → Nat :=
  let c29 : Index := 29#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1600 : Index := Scalar.indexCast v763
  let c0_674 : Index := 0#32
  ![29, v1600.toNat, 0]
def k0_off83 (i : grid0.Coords) (k0_t2 : Fin (k0_t2_loop i).trips) (c0_i32_404 : BitVec 32) : Fin 3 → Nat :=
  let c30 : Index := 30#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1604 : Index := Scalar.indexCast v763
  let c0_675 : Index := 0#32
  ![30, v1604.toNat, 0]
def k0_off84 (i : grid0.Coords) (k0_t2 : Fin (k0_t2_loop i).trips) (c0_i32_404 : BitVec 32) : Fin 3 → Nat :=
  let c31 : Index := 31#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_403 : BitVec 32 := 2#32
  let v760 : BitVec 32 := Scalar.muli arg21 c2_i32_403
  let v761 : BitVec 32 := Scalar.addi v760 c0_i32_404
  let c8_i32_405 : BitVec 32 := 8#32
  let v762 : BitVec 32 := Scalar.muli v761 c8_i32_405
  let v763 : BitVec 32 := v762
  let v1608 : Index := Scalar.indexCast v763
  let c0_676 : Index := 0#32
  ![31, v1608.toNat, 0]
def k0_off85 (i : grid0.Coords) (k0_t2 : Fin (k0_t2_loop i).trips) : Fin 4 → Nat :=
  let c0_731 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let v1689 : Index := Scalar.indexCast arg21
  let c160 : Index := 160#32
  let c0_732 : Index := 0#32
  ![0, v1689.toNat, 160, 0]
def k0_mult30 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c1_i32_746 : BitVec 32 := 1#32
  let v1708 : BitVec 32 := Scalar.addi arg21 c1_i32_746
  let c1_i32_747 : BitVec 32 := 1#32
  let v1709 : BitVec 32 := Scalar.subi v37 c1_i32_747
  let v1710 : BitVec 32 := Scalar.minsi v1708 v1709
  let c512_i32_748 : BitVec 32 := 512#32
  let v1711 : BitVec 32 := Scalar.muli v1710 c512_i32_748
  v1711
def k0_off86 (i : grid0.Coords) (k0_t2 : Fin (k0_t2_loop i).trips) : Fin 3 → Nat :=
  let c0_749 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c1_i32_746 : BitVec 32 := 1#32
  let v1708 : BitVec 32 := Scalar.addi arg21 c1_i32_746
  let c1_i32_747 : BitVec 32 := 1#32
  let v1709 : BitVec 32 := Scalar.subi v37 c1_i32_747
  let v1710 : BitVec 32 := Scalar.minsi v1708 v1709
  let c512_i32_748 : BitVec 32 := 512#32
  let v1711 : BitVec 32 := Scalar.muli v1710 c512_i32_748
  let v1712 : BitVec 32 := v1711
  let v1713 : Index := Scalar.indexCast v1712
  let c0_750 : Index := 0#32
  ![0, v1713.toNat, 0]
def k0_mult31 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c1_i32_746 : BitVec 32 := 1#32
  let v1708 : BitVec 32 := Scalar.addi arg21 c1_i32_746
  let c1_i32_747 : BitVec 32 := 1#32
  let v1709 : BitVec 32 := Scalar.subi v37 c1_i32_747
  let v1710 : BitVec 32 := Scalar.minsi v1708 v1709
  let c512_i32_751 : BitVec 32 := 512#32
  let v1716 : BitVec 32 := Scalar.muli v1710 c512_i32_751
  v1716
def k0_off87 (i : grid0.Coords) (k0_t2 : Fin (k0_t2_loop i).trips) : Fin 2 → Nat :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c1_i32_746 : BitVec 32 := 1#32
  let v1708 : BitVec 32 := Scalar.addi arg21 c1_i32_746
  let c1_i32_747 : BitVec 32 := 1#32
  let v1709 : BitVec 32 := Scalar.subi v37 c1_i32_747
  let v1710 : BitVec 32 := Scalar.minsi v1708 v1709
  let c512_i32_751 : BitVec 32 := 512#32
  let v1716 : BitVec 32 := Scalar.muli v1710 c512_i32_751
  let v1717 : BitVec 32 := v1716
  let v1718 : Index := Scalar.indexCast v1717
  let c0_752 : Index := 0#32
  ![v1718.toNat, 0]
def k0_mult32 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c512_i32_765 : BitVec 32 := 512#32
  let v1734 : BitVec 32 := Scalar.muli arg21 c512_i32_765
  let c256_i32_766 : BitVec 32 := 256#32
  let v1735 : BitVec 32 := Scalar.addi v1734 c256_i32_766
  v1735
def k0_mult33 (i : grid0.Coords) (k0_t2 : Fin (k0_t2_loop i).trips) : BitVec 32 :=
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let c2_i32_863 : BitVec 32 := 2#32
  let v1897 : BitVec 32 := Scalar.muli arg21 c2_i32_863
  let c1_i32_864 : BitVec 32 := 1#32
  let v1898 : BitVec 32 := Scalar.addi v1897 c1_i32_864
  let c8_i32_865 : BitVec 32 := 8#32
  let v1899 : BitVec 32 := Scalar.muli v1898 c8_i32_865
  v1899
def k0_off88 (i : grid0.Coords) (k0_t2 : Fin (k0_t2_loop i).trips) : Fin 4 → Nat :=
  let c0_1224 : Index := 0#32
  let c0_i32_73 : BitVec 32 := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v155 : BitVec 32 := Scalar.subi v37 c0_i32_73
  let c1_i32_74 : BitVec 32 := 1#32
  let v157 : BitVec 32 := Scalar.divsi v155 c1_i32_74
  let v158 : BitVec 32 := Scalar.muli v157 c1_i32_74
  let v159 : BitVec 32 := Scalar.addi c0_i32_73 v158
  let c1_i32_76 : BitVec 32 := 1#32
  let arg21 : BitVec 32 := Scf.iv v159 c1_i32_76 k0_t2
  let v2826 : Index := Scalar.indexCast arg21
  let c240 : Index := 240#32
  let c0_1225 : Index := 0#32
  ![0, v2826.toNat, 240, 0]
def k0_cond2 (i : grid0.Coords) : BitVec 1 :=
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let v160 : BitVec 1 := Scalar.cmpi .sgt v18 v37
  let v161 : BitVec 32 := Scalar.extui v160
  let c0_i32_77 : BitVec 32 := 0#32
  let v162 : BitVec 1 := Scalar.cmpi .ne v161 c0_i32_77
  v162

def k0_mult34 (i : grid0.Coords) : BitVec 32 :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c512_i32 : BitVec 32 := 512#32
  let v226 : BitVec 32 := Scalar.muli v37 c512_i32
  v226
def k0_off89 (i : grid0.Coords) : Fin 3 → Nat :=
  let c0_111 : Index := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c512_i32 : BitVec 32 := 512#32
  let v226 : BitVec 32 := Scalar.muli v37 c512_i32
  let v227 : BitVec 32 := v226
  let v228 : Index := Scalar.indexCast v227
  let c0_112 : Index := 0#32
  ![0, v228.toNat, 0]
def k0_mult35 (i : grid0.Coords) : BitVec 32 :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c1_i32_126 : BitVec 32 := 1#32
  let v268 : BitVec 32 := Scalar.addi v37 c1_i32_126
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_127 : BitVec 32 := 1#32
  let v269 : BitVec 32 := Scalar.subi v18 c1_i32_127
  let v270 : BitVec 32 := Scalar.minsi v268 v269
  let c512_i32_128 : BitVec 32 := 512#32
  let v271 : BitVec 32 := Scalar.muli v270 c512_i32_128
  v271
def k0_off90 (i : grid0.Coords) : Fin 3 → Nat :=
  let c0_129 : Index := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c1_i32_126 : BitVec 32 := 1#32
  let v268 : BitVec 32 := Scalar.addi v37 c1_i32_126
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_127 : BitVec 32 := 1#32
  let v269 : BitVec 32 := Scalar.subi v18 c1_i32_127
  let v270 : BitVec 32 := Scalar.minsi v268 v269
  let c512_i32_128 : BitVec 32 := 512#32
  let v271 : BitVec 32 := Scalar.muli v270 c512_i32_128
  let v272 : BitVec 32 := v271
  let v273 : Index := Scalar.indexCast v272
  let c0_130 : Index := 0#32
  ![0, v273.toNat, 0]
def k0_mult36 (i : grid0.Coords) : BitVec 32 :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c512_i32_148 : BitVec 32 := 512#32
  let v330 : BitVec 32 := Scalar.muli v37 c512_i32_148
  v330
def k0_off91 (i : grid0.Coords) : Fin 2 → Nat :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c512_i32_148 : BitVec 32 := 512#32
  let v330 : BitVec 32 := Scalar.muli v37 c512_i32_148
  let v331 : BitVec 32 := v330
  let v332 : Index := Scalar.indexCast v331
  let c0_149 : Index := 0#32
  ![v332.toNat, 0]
def k0_mult37 (i : grid0.Coords) : BitVec 32 :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c512_i32_150 : BitVec 32 := 512#32
  let v336 : BitVec 32 := Scalar.muli v37 c512_i32_150
  let c0_i32_151 : BitVec 32 := 0#32
  let v337 : BitVec 32 := Scalar.addi v336 c0_i32_151
  v337
def k0_off92 (i : grid0.Coords) (c0_i32_151 : BitVec 32) (c0_i32_152 : BitVec 32) : Fin 2 → Nat :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c512_i32_150 : BitVec 32 := 512#32
  let v336 : BitVec 32 := Scalar.muli v37 c512_i32_150
  let v337 : BitVec 32 := Scalar.addi v336 c0_i32_151
  let v338 : BitVec 32 := v337
  let v339 : BitVec 32 := Scalar.addi v338 c0_i32_152
  let v340 : Index := Scalar.indexCast v339
  let c0_153 : Index := 0#32
  ![v340.toNat, 0]
def k0_mult38 (i : grid0.Coords) : BitVec 32 :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let c0_i32_221 : BitVec 32 := 0#32
  let v500 : BitVec 32 := Scalar.addi v499 c0_i32_221
  let c8_i32_222 : BitVec 32 := 8#32
  let v501 : BitVec 32 := Scalar.muli v500 c8_i32_222
  v501
def k0_off93 (i : grid0.Coords) (c0_i32_221 : BitVec 32) : Fin 3 → Nat :=
  let c0_458 : Index := 0#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1223 : Index := Scalar.indexCast v502
  let c0_459 : Index := 0#32
  ![0, v1223.toNat, 0]
def k0_off94 (i : grid0.Coords) (c0_i32_221 : BitVec 32) : Fin 3 → Nat :=
  let c1_460 : Index := 1#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1227 : Index := Scalar.indexCast v502
  let c0_461 : Index := 0#32
  ![1, v1227.toNat, 0]
def k0_off95 (i : grid0.Coords) (c0_i32_221 : BitVec 32) : Fin 3 → Nat :=
  let c2_462 : Index := 2#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1231 : Index := Scalar.indexCast v502
  let c0_463 : Index := 0#32
  ![2, v1231.toNat, 0]
def k0_off96 (i : grid0.Coords) (c0_i32_221 : BitVec 32) : Fin 3 → Nat :=
  let c3_464 : Index := 3#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1235 : Index := Scalar.indexCast v502
  let c0_465 : Index := 0#32
  ![3, v1235.toNat, 0]
def k0_off97 (i : grid0.Coords) (c0_i32_221 : BitVec 32) : Fin 3 → Nat :=
  let c4 : Index := 4#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1239 : Index := Scalar.indexCast v502
  let c0_466 : Index := 0#32
  ![4, v1239.toNat, 0]
def k0_off98 (i : grid0.Coords) (c0_i32_221 : BitVec 32) : Fin 3 → Nat :=
  let c5 : Index := 5#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1243 : Index := Scalar.indexCast v502
  let c0_467 : Index := 0#32
  ![5, v1243.toNat, 0]
def k0_off99 (i : grid0.Coords) (c0_i32_221 : BitVec 32) : Fin 3 → Nat :=
  let c6 : Index := 6#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1247 : Index := Scalar.indexCast v502
  let c0_468 : Index := 0#32
  ![6, v1247.toNat, 0]
def k0_off100 (i : grid0.Coords) (c0_i32_221 : BitVec 32) : Fin 3 → Nat :=
  let c7 : Index := 7#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1251 : Index := Scalar.indexCast v502
  let c0_469 : Index := 0#32
  ![7, v1251.toNat, 0]
def k0_off101 (i : grid0.Coords) (c0_i32_221 : BitVec 32) : Fin 3 → Nat :=
  let c8 : Index := 8#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1255 : Index := Scalar.indexCast v502
  let c0_470 : Index := 0#32
  ![8, v1255.toNat, 0]
def k0_off102 (i : grid0.Coords) (c0_i32_221 : BitVec 32) : Fin 3 → Nat :=
  let c9 : Index := 9#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1259 : Index := Scalar.indexCast v502
  let c0_471 : Index := 0#32
  ![9, v1259.toNat, 0]
def k0_off103 (i : grid0.Coords) (c0_i32_221 : BitVec 32) : Fin 3 → Nat :=
  let c10 : Index := 10#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1263 : Index := Scalar.indexCast v502
  let c0_472 : Index := 0#32
  ![10, v1263.toNat, 0]
def k0_off104 (i : grid0.Coords) (c0_i32_221 : BitVec 32) : Fin 3 → Nat :=
  let c11 : Index := 11#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1267 : Index := Scalar.indexCast v502
  let c0_473 : Index := 0#32
  ![11, v1267.toNat, 0]
def k0_off105 (i : grid0.Coords) (c0_i32_221 : BitVec 32) : Fin 3 → Nat :=
  let c12 : Index := 12#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1271 : Index := Scalar.indexCast v502
  let c0_474 : Index := 0#32
  ![12, v1271.toNat, 0]
def k0_off106 (i : grid0.Coords) (c0_i32_221 : BitVec 32) : Fin 3 → Nat :=
  let c13 : Index := 13#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1275 : Index := Scalar.indexCast v502
  let c0_475 : Index := 0#32
  ![13, v1275.toNat, 0]
def k0_off107 (i : grid0.Coords) (c0_i32_221 : BitVec 32) : Fin 3 → Nat :=
  let c14 : Index := 14#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1279 : Index := Scalar.indexCast v502
  let c0_476 : Index := 0#32
  ![14, v1279.toNat, 0]
def k0_off108 (i : grid0.Coords) (c0_i32_221 : BitVec 32) : Fin 3 → Nat :=
  let c15 : Index := 15#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1283 : Index := Scalar.indexCast v502
  let c0_477 : Index := 0#32
  ![15, v1283.toNat, 0]
def k0_off109 (i : grid0.Coords) (c0_i32_221 : BitVec 32) : Fin 3 → Nat :=
  let c16 : Index := 16#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1287 : Index := Scalar.indexCast v502
  let c0_478 : Index := 0#32
  ![16, v1287.toNat, 0]
def k0_off110 (i : grid0.Coords) (c0_i32_221 : BitVec 32) : Fin 3 → Nat :=
  let c17 : Index := 17#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1291 : Index := Scalar.indexCast v502
  let c0_479 : Index := 0#32
  ![17, v1291.toNat, 0]
def k0_off111 (i : grid0.Coords) (c0_i32_221 : BitVec 32) : Fin 3 → Nat :=
  let c18 : Index := 18#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1295 : Index := Scalar.indexCast v502
  let c0_480 : Index := 0#32
  ![18, v1295.toNat, 0]
def k0_off112 (i : grid0.Coords) (c0_i32_221 : BitVec 32) : Fin 3 → Nat :=
  let c19 : Index := 19#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1299 : Index := Scalar.indexCast v502
  let c0_481 : Index := 0#32
  ![19, v1299.toNat, 0]
def k0_off113 (i : grid0.Coords) (c0_i32_221 : BitVec 32) : Fin 3 → Nat :=
  let c20 : Index := 20#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1303 : Index := Scalar.indexCast v502
  let c0_482 : Index := 0#32
  ![20, v1303.toNat, 0]
def k0_off114 (i : grid0.Coords) (c0_i32_221 : BitVec 32) : Fin 3 → Nat :=
  let c21 : Index := 21#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1307 : Index := Scalar.indexCast v502
  let c0_483 : Index := 0#32
  ![21, v1307.toNat, 0]
def k0_off115 (i : grid0.Coords) (c0_i32_221 : BitVec 32) : Fin 3 → Nat :=
  let c22 : Index := 22#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1311 : Index := Scalar.indexCast v502
  let c0_484 : Index := 0#32
  ![22, v1311.toNat, 0]
def k0_off116 (i : grid0.Coords) (c0_i32_221 : BitVec 32) : Fin 3 → Nat :=
  let c23 : Index := 23#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1315 : Index := Scalar.indexCast v502
  let c0_485 : Index := 0#32
  ![23, v1315.toNat, 0]
def k0_off117 (i : grid0.Coords) (c0_i32_221 : BitVec 32) : Fin 3 → Nat :=
  let c24 : Index := 24#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1319 : Index := Scalar.indexCast v502
  let c0_486 : Index := 0#32
  ![24, v1319.toNat, 0]
def k0_off118 (i : grid0.Coords) (c0_i32_221 : BitVec 32) : Fin 3 → Nat :=
  let c25 : Index := 25#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1323 : Index := Scalar.indexCast v502
  let c0_487 : Index := 0#32
  ![25, v1323.toNat, 0]
def k0_off119 (i : grid0.Coords) (c0_i32_221 : BitVec 32) : Fin 3 → Nat :=
  let c26 : Index := 26#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1327 : Index := Scalar.indexCast v502
  let c0_488 : Index := 0#32
  ![26, v1327.toNat, 0]
def k0_off120 (i : grid0.Coords) (c0_i32_221 : BitVec 32) : Fin 3 → Nat :=
  let c27 : Index := 27#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1331 : Index := Scalar.indexCast v502
  let c0_489 : Index := 0#32
  ![27, v1331.toNat, 0]
def k0_off121 (i : grid0.Coords) (c0_i32_221 : BitVec 32) : Fin 3 → Nat :=
  let c28 : Index := 28#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1335 : Index := Scalar.indexCast v502
  let c0_490 : Index := 0#32
  ![28, v1335.toNat, 0]
def k0_off122 (i : grid0.Coords) (c0_i32_221 : BitVec 32) : Fin 3 → Nat :=
  let c29 : Index := 29#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1339 : Index := Scalar.indexCast v502
  let c0_491 : Index := 0#32
  ![29, v1339.toNat, 0]
def k0_off123 (i : grid0.Coords) (c0_i32_221 : BitVec 32) : Fin 3 → Nat :=
  let c30 : Index := 30#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1343 : Index := Scalar.indexCast v502
  let c0_492 : Index := 0#32
  ![30, v1343.toNat, 0]
def k0_off124 (i : grid0.Coords) (c0_i32_221 : BitVec 32) : Fin 3 → Nat :=
  let c31 : Index := 31#32
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_220 : BitVec 32 := 2#32
  let v499 : BitVec 32 := Scalar.muli v37 c2_i32_220
  let v500 : BitVec 32 := Scalar.addi v499 c0_i32_221
  let c8_i32_222 : BitVec 32 := 8#32
  let v501 : BitVec 32 := Scalar.muli v500 c8_i32_222
  let v502 : BitVec 32 := v501
  let v1347 : Index := Scalar.indexCast v502
  let c0_493 : Index := 0#32
  ![31, v1347.toNat, 0]
def k0_mult39 (i : grid0.Coords) : BitVec 32 :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c512_i32_494 : BitVec 32 := 512#32
  let v1351 : BitVec 32 := Scalar.muli v37 c512_i32_494
  let c256_i32_495 : BitVec 32 := 256#32
  let v1352 : BitVec 32 := Scalar.addi v1351 c256_i32_495
  v1352
def k0_mult40 (i : grid0.Coords) : BitVec 32 :=
  let arg1 : BitVec 32 := BitVec.ofNat 32 (i 1).val
  let c4_i32_5 : BitVec 32 := 4#32
  let v19 : BitVec 32 := Scalar.addi arg1 c4_i32_5
  let c1_i32_6 : BitVec 32 := 1#32
  let v20 : BitVec 32 := Scalar.subi v19 c1_i32_6
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c4_i32_7 : BitVec 32 := 4#32
  let c0_i32_10 : BitVec 32 := 0#32
  let v27 : BitVec 1 := Scalar.cmpi .sgt c4_i32_7 c0_i32_10
  let v28 : BitVec 32 := Scalar.extui v27
  let c0_i32_11 : BitVec 32 := 0#32
  let v29 : BitVec 1 := Scalar.cmpi .slt c4_i32_7 c0_i32_11
  let v30 : BitVec 32 := Scalar.extui v29
  let v31 : BitVec 32 := Scalar.subi v28 v30
  let v32 : BitVec 1 := Scalar.cmpi .ne v26 v31
  let v33 : BitVec 32 := Scalar.remsi v20 c4_i32_7
  let c0_i32_12 : BitVec 32 := 0#32
  let v34 : BitVec 1 := Scalar.cmpi .ne v33 c0_i32_12
  let v35 : BitVec 1 := Scalar.andi v32 v34
  let v21 : BitVec 32 := Scalar.divsi v20 c4_i32_7
  let c1_i32_13 : BitVec 32 := 1#32
  let v36 : BitVec 32 := Scalar.subi v21 c1_i32_13
  let v37 : BitVec 32 := Scalar.select v35 v36 v21
  let c2_i32_592 : BitVec 32 := 2#32
  let v1514 : BitVec 32 := Scalar.muli v37 c2_i32_592
  let c1_i32_593 : BitVec 32 := 1#32
  let v1515 : BitVec 32 := Scalar.addi v1514 c1_i32_593
  let c8_i32_594 : BitVec 32 := 8#32
  let v1516 : BitVec 32 := Scalar.muli v1515 c8_i32_594
  v1516
@[reducible] def k0_t3_loop (i : grid0.Coords) : Scf.Loop 32 :=
  let c0_i32_106 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v219 : BitVec 32 := Scalar.subi v18 c0_i32_106
  let c1_i32_107 : BitVec 32 := 1#32
  let v221 : BitVec 32 := Scalar.divsi v219 c1_i32_107
  let v222 : BitVec 32 := Scalar.muli v221 c1_i32_107
  let v223 : BitVec 32 := Scalar.addi c0_i32_106 v222
  let c1_i32_108 : BitVec 32 := 1#32
  ⟨c0_i32_106, v223, c1_i32_108⟩
def k0_mult41 (i : grid0.Coords) (k0_t3 : Fin (k0_t3_loop i).trips) : BitVec 32 :=
  let c0_i32_106 : BitVec 32 := 0#32
  let c1_i32_108 : BitVec 32 := 1#32
  let arg21 : BitVec 32 := Scf.iv c0_i32_106 c1_i32_108 k0_t3
  let c512_i32 : BitVec 32 := 512#32
  let v226 : BitVec 32 := Scalar.muli arg21 c512_i32
  v226
def k0_off125 (i : grid0.Coords) (k0_t3 : Fin (k0_t3_loop i).trips) : Fin 2 → Nat :=
  let c0_i32_106 : BitVec 32 := 0#32
  let c1_i32_108 : BitVec 32 := 1#32
  let arg21 : BitVec 32 := Scf.iv c0_i32_106 c1_i32_108 k0_t3
  let c512_i32 : BitVec 32 := 512#32
  let v226 : BitVec 32 := Scalar.muli arg21 c512_i32
  let v227 : BitVec 32 := v226
  let v228 : Index := Scalar.indexCast v227
  let c0_111 : Index := 0#32
  ![v228.toNat, 0]
def k0_mult42 (i : grid0.Coords) (k0_t3 : Fin (k0_t3_loop i).trips) : BitVec 32 :=
  let c0_i32_106 : BitVec 32 := 0#32
  let c1_i32_108 : BitVec 32 := 1#32
  let arg21 : BitVec 32 := Scf.iv c0_i32_106 c1_i32_108 k0_t3
  let c512_i32_114 : BitVec 32 := 512#32
  let v236 : BitVec 32 := Scalar.muli arg21 c512_i32_114
  v236
@[reducible] def k0_t4_loop (i : grid0.Coords) : Scf.Loop 32 :=
  let c0_i32_106 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v219 : BitVec 32 := Scalar.subi v18 c0_i32_106
  let c1_i32_107 : BitVec 32 := 1#32
  let v221 : BitVec 32 := Scalar.divsi v219 c1_i32_107
  let v222 : BitVec 32 := Scalar.muli v221 c1_i32_107
  let v223 : BitVec 32 := Scalar.addi c0_i32_106 v222
  let v220 : BitVec 32 := Scalar.addi c0_i32_106 v219
  let c1_i32_109 : BitVec 32 := 1#32
  ⟨v223, v220, c1_i32_109⟩
def k0_mult43 (i : grid0.Coords) (k0_t4 : Fin (k0_t4_loop i).trips) : BitVec 32 :=
  let c0_i32_106 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v219 : BitVec 32 := Scalar.subi v18 c0_i32_106
  let c1_i32_107 : BitVec 32 := 1#32
  let v221 : BitVec 32 := Scalar.divsi v219 c1_i32_107
  let v222 : BitVec 32 := Scalar.muli v221 c1_i32_107
  let v223 : BitVec 32 := Scalar.addi c0_i32_106 v222
  let c1_i32_109 : BitVec 32 := 1#32
  let arg21 : BitVec 32 := Scf.iv v223 c1_i32_109 k0_t4
  let c512_i32 : BitVec 32 := 512#32
  let v226 : BitVec 32 := Scalar.muli arg21 c512_i32
  v226
def k0_off126 (i : grid0.Coords) (k0_t4 : Fin (k0_t4_loop i).trips) : Fin 2 → Nat :=
  let c0_i32_106 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v219 : BitVec 32 := Scalar.subi v18 c0_i32_106
  let c1_i32_107 : BitVec 32 := 1#32
  let v221 : BitVec 32 := Scalar.divsi v219 c1_i32_107
  let v222 : BitVec 32 := Scalar.muli v221 c1_i32_107
  let v223 : BitVec 32 := Scalar.addi c0_i32_106 v222
  let c1_i32_109 : BitVec 32 := 1#32
  let arg21 : BitVec 32 := Scf.iv v223 c1_i32_109 k0_t4
  let c512_i32 : BitVec 32 := 512#32
  let v226 : BitVec 32 := Scalar.muli arg21 c512_i32
  let v227 : BitVec 32 := v226
  let v228 : Index := Scalar.indexCast v227
  let c0_111 : Index := 0#32
  ![v228.toNat, 0]
def k0_mult44 (i : grid0.Coords) (k0_t4 : Fin (k0_t4_loop i).trips) : BitVec 32 :=
  let c0_i32_106 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v219 : BitVec 32 := Scalar.subi v18 c0_i32_106
  let c1_i32_107 : BitVec 32 := 1#32
  let v221 : BitVec 32 := Scalar.divsi v219 c1_i32_107
  let v222 : BitVec 32 := Scalar.muli v221 c1_i32_107
  let v223 : BitVec 32 := Scalar.addi c0_i32_106 v222
  let c1_i32_109 : BitVec 32 := 1#32
  let arg21 : BitVec 32 := Scf.iv v223 c1_i32_109 k0_t4
  let c512_i32_114 : BitVec 32 := 512#32
  let v236 : BitVec 32 := Scalar.muli arg21 c512_i32_114
  v236
@[reducible] def k0_t5_loop (i : grid0.Coords) : Scf.Loop 32 :=
  let c0_i32_112 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v227 : BitVec 32 := Scalar.subi v18 c0_i32_112
  let c1_i32_113 : BitVec 32 := 1#32
  let v229 : BitVec 32 := Scalar.divsi v227 c1_i32_113
  let v230 : BitVec 32 := Scalar.muli v229 c1_i32_113
  let v231 : BitVec 32 := Scalar.addi c0_i32_112 v230
  let c1_i32_114 : BitVec 32 := 1#32
  ⟨c0_i32_112, v231, c1_i32_114⟩
def k0_mult45 (i : grid0.Coords) (k0_t5 : Fin (k0_t5_loop i).trips) : BitVec 32 :=
  let c0_i32_112 : BitVec 32 := 0#32
  let c1_i32_114 : BitVec 32 := 1#32
  let arg21 : BitVec 32 := Scf.iv c0_i32_112 c1_i32_114 k0_t5
  let c512_i32 : BitVec 32 := 512#32
  let v247 : BitVec 32 := Scalar.muli arg21 c512_i32
  v247
def k0_off127 (i : grid0.Coords) (k0_t5 : Fin (k0_t5_loop i).trips) : Fin 2 → Nat :=
  let c0_i32_112 : BitVec 32 := 0#32
  let c1_i32_114 : BitVec 32 := 1#32
  let arg21 : BitVec 32 := Scf.iv c0_i32_112 c1_i32_114 k0_t5
  let c512_i32 : BitVec 32 := 512#32
  let v247 : BitVec 32 := Scalar.muli arg21 c512_i32
  let v248 : BitVec 32 := v247
  let v249 : Index := Scalar.indexCast v248
  let c0_126 : Index := 0#32
  ![v249.toNat, 0]
@[reducible] def k0_t6_loop (i : grid0.Coords) : Scf.Loop 32 :=
  let c0_i32_112 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v227 : BitVec 32 := Scalar.subi v18 c0_i32_112
  let c1_i32_113 : BitVec 32 := 1#32
  let v229 : BitVec 32 := Scalar.divsi v227 c1_i32_113
  let v230 : BitVec 32 := Scalar.muli v229 c1_i32_113
  let v231 : BitVec 32 := Scalar.addi c0_i32_112 v230
  let v228 : BitVec 32 := Scalar.addi c0_i32_112 v227
  let c1_i32_115 : BitVec 32 := 1#32
  ⟨v231, v228, c1_i32_115⟩
def k0_mult46 (i : grid0.Coords) (k0_t6 : Fin (k0_t6_loop i).trips) : BitVec 32 :=
  let c0_i32_112 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v227 : BitVec 32 := Scalar.subi v18 c0_i32_112
  let c1_i32_113 : BitVec 32 := 1#32
  let v229 : BitVec 32 := Scalar.divsi v227 c1_i32_113
  let v230 : BitVec 32 := Scalar.muli v229 c1_i32_113
  let v231 : BitVec 32 := Scalar.addi c0_i32_112 v230
  let c1_i32_115 : BitVec 32 := 1#32
  let arg21 : BitVec 32 := Scf.iv v231 c1_i32_115 k0_t6
  let c512_i32 : BitVec 32 := 512#32
  let v247 : BitVec 32 := Scalar.muli arg21 c512_i32
  v247
def k0_off128 (i : grid0.Coords) (k0_t6 : Fin (k0_t6_loop i).trips) : Fin 2 → Nat :=
  let c0_i32_112 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v227 : BitVec 32 := Scalar.subi v18 c0_i32_112
  let c1_i32_113 : BitVec 32 := 1#32
  let v229 : BitVec 32 := Scalar.divsi v227 c1_i32_113
  let v230 : BitVec 32 := Scalar.muli v229 c1_i32_113
  let v231 : BitVec 32 := Scalar.addi c0_i32_112 v230
  let c1_i32_115 : BitVec 32 := 1#32
  let arg21 : BitVec 32 := Scf.iv v231 c1_i32_115 k0_t6
  let c512_i32 : BitVec 32 := 512#32
  let v247 : BitVec 32 := Scalar.muli arg21 c512_i32
  let v248 : BitVec 32 := v247
  let v249 : Index := Scalar.indexCast v248
  let c0_126 : Index := 0#32
  ![v249.toNat, 0]
@[reducible] def k0_t7_loop : Scf.Loop 32 :=
  let c0_i32_118 : BitVec 32 := 0#32
  let c13_i32 : BitVec 32 := 13#32
  let v238 : BitVec 32 := Scalar.addi c0_i32_118 c13_i32
  let c1_i32_119 : BitVec 32 := 1#32
  ⟨c0_i32_118, v238, c1_i32_119⟩
@[reducible] def k0_t8_loop (i : grid0.Coords) : Scf.Loop 32 :=
  let c0_i32_128 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v252 : BitVec 32 := Scalar.subi v18 c0_i32_128
  let c1_i32_129 : BitVec 32 := 1#32
  let v254 : BitVec 32 := Scalar.divsi v252 c1_i32_129
  let v255 : BitVec 32 := Scalar.muli v254 c1_i32_129
  let v256 : BitVec 32 := Scalar.addi c0_i32_128 v255
  let c1_i32_130 : BitVec 32 := 1#32
  ⟨c0_i32_128, v256, c1_i32_130⟩
def k0_mult47 (i : grid0.Coords) (k0_t8 : Fin (k0_t8_loop i).trips) : BitVec 32 :=
  let c0_i32_128 : BitVec 32 := 0#32
  let c1_i32_130 : BitVec 32 := 1#32
  let arg23 : BitVec 32 := Scf.iv c0_i32_128 c1_i32_130 k0_t8
  let c512_i32 : BitVec 32 := 512#32
  let v263 : BitVec 32 := Scalar.muli arg23 c512_i32
  v263
def k0_off129 (i : grid0.Coords) (k0_t8 : Fin (k0_t8_loop i).trips) : Fin 2 → Nat :=
  let c0_i32_128 : BitVec 32 := 0#32
  let c1_i32_130 : BitVec 32 := 1#32
  let arg23 : BitVec 32 := Scf.iv c0_i32_128 c1_i32_130 k0_t8
  let c512_i32 : BitVec 32 := 512#32
  let v263 : BitVec 32 := Scalar.muli arg23 c512_i32
  let v264 : BitVec 32 := v263
  let v265 : Index := Scalar.indexCast v264
  let c0_133 : Index := 0#32
  ![v265.toNat, 0]
@[reducible] def k0_t9_loop (i : grid0.Coords) : Scf.Loop 32 :=
  let c0_i32_128 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v252 : BitVec 32 := Scalar.subi v18 c0_i32_128
  let c1_i32_129 : BitVec 32 := 1#32
  let v254 : BitVec 32 := Scalar.divsi v252 c1_i32_129
  let v255 : BitVec 32 := Scalar.muli v254 c1_i32_129
  let v256 : BitVec 32 := Scalar.addi c0_i32_128 v255
  let v253 : BitVec 32 := Scalar.addi c0_i32_128 v252
  let c1_i32_131 : BitVec 32 := 1#32
  ⟨v256, v253, c1_i32_131⟩
def k0_mult48 (i : grid0.Coords) (k0_t9 : Fin (k0_t9_loop i).trips) : BitVec 32 :=
  let c0_i32_128 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v252 : BitVec 32 := Scalar.subi v18 c0_i32_128
  let c1_i32_129 : BitVec 32 := 1#32
  let v254 : BitVec 32 := Scalar.divsi v252 c1_i32_129
  let v255 : BitVec 32 := Scalar.muli v254 c1_i32_129
  let v256 : BitVec 32 := Scalar.addi c0_i32_128 v255
  let c1_i32_131 : BitVec 32 := 1#32
  let arg23 : BitVec 32 := Scf.iv v256 c1_i32_131 k0_t9
  let c512_i32 : BitVec 32 := 512#32
  let v263 : BitVec 32 := Scalar.muli arg23 c512_i32
  v263
def k0_off130 (i : grid0.Coords) (k0_t9 : Fin (k0_t9_loop i).trips) : Fin 2 → Nat :=
  let c0_i32_128 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v252 : BitVec 32 := Scalar.subi v18 c0_i32_128
  let c1_i32_129 : BitVec 32 := 1#32
  let v254 : BitVec 32 := Scalar.divsi v252 c1_i32_129
  let v255 : BitVec 32 := Scalar.muli v254 c1_i32_129
  let v256 : BitVec 32 := Scalar.addi c0_i32_128 v255
  let c1_i32_131 : BitVec 32 := 1#32
  let arg23 : BitVec 32 := Scf.iv v256 c1_i32_131 k0_t9
  let c512_i32 : BitVec 32 := 512#32
  let v263 : BitVec 32 := Scalar.muli arg23 c512_i32
  let v264 : BitVec 32 := v263
  let v265 : Index := Scalar.indexCast v264
  let c0_133 : Index := 0#32
  ![v265.toNat, 0]
@[reducible] def k0_t10_loop (i : grid0.Coords) : Scf.Loop 32 :=
  let c0_i32_122 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v242 : BitVec 32 := Scalar.subi v18 c0_i32_122
  let c1_i32_123 : BitVec 32 := 1#32
  let v244 : BitVec 32 := Scalar.divsi v242 c1_i32_123
  let v245 : BitVec 32 := Scalar.muli v244 c1_i32_123
  let v246 : BitVec 32 := Scalar.addi c0_i32_122 v245
  let c1_i32_124 : BitVec 32 := 1#32
  ⟨c0_i32_122, v246, c1_i32_124⟩
def k0_mult49 (i : grid0.Coords) (k0_t10 : Fin (k0_t10_loop i).trips) : BitVec 32 :=
  let c0_i32_122 : BitVec 32 := 0#32
  let c1_i32_124 : BitVec 32 := 1#32
  let arg21 : BitVec 32 := Scf.iv c0_i32_122 c1_i32_124 k0_t10
  let c512_i32 : BitVec 32 := 512#32
  let v247 : BitVec 32 := Scalar.muli arg21 c512_i32
  v247
def k0_off131 (i : grid0.Coords) (k0_t10 : Fin (k0_t10_loop i).trips) : Fin 2 → Nat :=
  let c0_i32_122 : BitVec 32 := 0#32
  let c1_i32_124 : BitVec 32 := 1#32
  let arg21 : BitVec 32 := Scf.iv c0_i32_122 c1_i32_124 k0_t10
  let c512_i32 : BitVec 32 := 512#32
  let v247 : BitVec 32 := Scalar.muli arg21 c512_i32
  let v248 : BitVec 32 := v247
  let v249 : Index := Scalar.indexCast v248
  let c0_126 : Index := 0#32
  ![v249.toNat, 0]
def k0_mult50 (i : grid0.Coords) (k0_t10 : Fin (k0_t10_loop i).trips) : BitVec 32 :=
  let c0_i32_122 : BitVec 32 := 0#32
  let c1_i32_124 : BitVec 32 := 1#32
  let arg21 : BitVec 32 := Scf.iv c0_i32_122 c1_i32_124 k0_t10
  let c512_i32_130 : BitVec 32 := 512#32
  let v267 : BitVec 32 := Scalar.muli arg21 c512_i32_130
  v267
@[reducible] def k0_t11_loop (i : grid0.Coords) : Scf.Loop 32 :=
  let c0_i32_122 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v242 : BitVec 32 := Scalar.subi v18 c0_i32_122
  let c1_i32_123 : BitVec 32 := 1#32
  let v244 : BitVec 32 := Scalar.divsi v242 c1_i32_123
  let v245 : BitVec 32 := Scalar.muli v244 c1_i32_123
  let v246 : BitVec 32 := Scalar.addi c0_i32_122 v245
  let v243 : BitVec 32 := Scalar.addi c0_i32_122 v242
  let c1_i32_125 : BitVec 32 := 1#32
  ⟨v246, v243, c1_i32_125⟩
def k0_mult51 (i : grid0.Coords) (k0_t11 : Fin (k0_t11_loop i).trips) : BitVec 32 :=
  let c0_i32_122 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v242 : BitVec 32 := Scalar.subi v18 c0_i32_122
  let c1_i32_123 : BitVec 32 := 1#32
  let v244 : BitVec 32 := Scalar.divsi v242 c1_i32_123
  let v245 : BitVec 32 := Scalar.muli v244 c1_i32_123
  let v246 : BitVec 32 := Scalar.addi c0_i32_122 v245
  let c1_i32_125 : BitVec 32 := 1#32
  let arg21 : BitVec 32 := Scf.iv v246 c1_i32_125 k0_t11
  let c512_i32 : BitVec 32 := 512#32
  let v247 : BitVec 32 := Scalar.muli arg21 c512_i32
  v247
def k0_off132 (i : grid0.Coords) (k0_t11 : Fin (k0_t11_loop i).trips) : Fin 2 → Nat :=
  let c0_i32_122 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v242 : BitVec 32 := Scalar.subi v18 c0_i32_122
  let c1_i32_123 : BitVec 32 := 1#32
  let v244 : BitVec 32 := Scalar.divsi v242 c1_i32_123
  let v245 : BitVec 32 := Scalar.muli v244 c1_i32_123
  let v246 : BitVec 32 := Scalar.addi c0_i32_122 v245
  let c1_i32_125 : BitVec 32 := 1#32
  let arg21 : BitVec 32 := Scf.iv v246 c1_i32_125 k0_t11
  let c512_i32 : BitVec 32 := 512#32
  let v247 : BitVec 32 := Scalar.muli arg21 c512_i32
  let v248 : BitVec 32 := v247
  let v249 : Index := Scalar.indexCast v248
  let c0_126 : Index := 0#32
  ![v249.toNat, 0]
def k0_mult52 (i : grid0.Coords) (k0_t11 : Fin (k0_t11_loop i).trips) : BitVec 32 :=
  let c0_i32_122 : BitVec 32 := 0#32
  let arg1 : BitVec 32 := BitVec.ofNat 32 (i 1).val
  let c63_i32 : BitVec 32 := 63#32
  let v0 : BitVec 32 := Scalar.minsi arg1 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v242 : BitVec 32 := Scalar.subi v18 c0_i32_122
  let c1_i32_123 : BitVec 32 := 1#32
  let v244 : BitVec 32 := Scalar.divsi v242 c1_i32_123
  let v245 : BitVec 32 := Scalar.muli v244 c1_i32_123
  let v246 : BitVec 32 := Scalar.addi c0_i32_122 v245
  let c1_i32_125 : BitVec 32 := 1#32
  let arg21 : BitVec 32 := Scf.iv v246 c1_i32_125 k0_t11
  let c512_i32_130 : BitVec 32 := 512#32
  let v267 : BitVec 32 := Scalar.muli arg21 c512_i32_130
  v267
def k0_cond3 (i : grid0.Coords) : BitVec 1 :=
  let arg1 : BitVec 32 := BitVec.ofNat 32 (i 1).val
  let c0_i32_78 : BitVec 32 := 0#32
  let v163 : BitVec 1 := Scalar.cmpi .sgt arg1 c0_i32_78
  let v164 : BitVec 32 := Scalar.extui v163
  let c0_i32_79 : BitVec 32 := 0#32
  let v165 : BitVec 1 := Scalar.cmpi .ne v164 c0_i32_79
  v165

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x320x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S2x8192x1024 : Shape := ⟨3, ![2, 8192, 1024]⟩
abbrev S2x4x1024 : Shape := ⟨3, ![2, 4, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S512x1024 : Shape := ⟨2, ![512, 1024]⟩
abbrev S1x4x1024 : Shape := ⟨3, ![1, 4, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x4x1024, .f32⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S2x8192x1024, .bf16⟩
  | .hbm, ⟨7, _⟩ => ⟨S16384x1024, .bf16⟩
  | .hbm, ⟨8, _⟩ => ⟨S16384x1024, .f32⟩
  | .hbm, ⟨9, _⟩ => ⟨S1x1024x1024, .bf16⟩
  | .hbm, ⟨10, _⟩ => ⟨S2x1024x4096, .bf16⟩
  | .hbm, ⟨11, _⟩ => ⟨S2x4096x1024, .bf16⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x4x1024, .f32⟩
  | .local _ .vmem, ⟨5, _⟩ => ⟨S1x1024x1024, .bf16⟩
  | .local _ .vmem, ⟨6, _⟩ => ⟨S1x1024x4096, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x8192x1024 : Shape := ⟨3, ![2, 8192, 1024]⟩
abbrev S2x4x1024 : Shape := ⟨3, ![2, 4, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1x4x1024 : Shape := ⟨3, ![1, 4, 1024]⟩
abbrev S4x1024 : Shape := ⟨2, ![4, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x4x1024, .f32⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S1x4x1024, .f32⟩
  | .hbm, ⟨7, _⟩ => ⟨S4x1024, .f32⟩
  | .hbm, ⟨8, _⟩ => ⟨S1024x1024, .f32⟩
  | .hbm, ⟨9, _⟩ => ⟨S2x8192x1024, .f32⟩
  | .hbm, ⟨10, _⟩ => ⟨S1x1024, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S1x1024, .f32⟩
  | .hbm, ⟨30, _⟩ => ⟨S1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S1x1024x4096, .f32⟩
  | .hbm, ⟨48, _⟩ => ⟨S1024x4096, .f32⟩
  | .hbm, ⟨49, _⟩ => ⟨S1x4096x1024, .f32⟩
  | .hbm, ⟨50, _⟩ => ⟨S4096x1024, .f32⟩
  | .hbm, ⟨51, _⟩ => ⟨S2x8192x4096, .f32⟩
  | .hbm, ⟨52, _⟩ => ⟨S_, .f32⟩
  | .hbm, ⟨53, _⟩ => ⟨S2x8192x4096, .f32⟩
  | .hbm, ⟨54, _⟩ => ⟨S2x8192x4096, .f32⟩
  | .hbm, ⟨55, _⟩ => ⟨S2x8192x4096, .f32⟩
  | .hbm, ⟨56, _⟩ => ⟨S2x8192x1024, .f32⟩
  | .hbm, ⟨57, _⟩ => ⟨S1x1024, .f32⟩
  | .hbm, ⟨58, _⟩ => ⟨S1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_cst : Ref sig .tc := ⟨.hbm, 52, rfl⟩
abbrev main_call0_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x4x1024 : Shape := ⟨3, ![2, 4, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S512x1024 : Shape := ⟨2, ![512, 1024]⟩
abbrev S1x4x1024 : Shape := ⟨3, ![1, 4, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x4x1024, .f32⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S2x8192x1024, .bf16⟩
  | .hbm, ⟨7, _⟩ => ⟨S16384x1024, .bf16⟩
  | .hbm, ⟨8, _⟩ => ⟨S16384x1024, .f32⟩
  | .hbm, ⟨9, _⟩ => ⟨S1x1024x1024, .bf16⟩
  | .hbm, ⟨10, _⟩ => ⟨S2x1024x4096, .bf16⟩
  | .hbm, ⟨11, _⟩ => ⟨S2x4096x1024, .bf16⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x4x1024, .f32⟩
  | .local _ .vmem, ⟨5, _⟩ => ⟨S1x1024x1024, .bf16⟩
  | .local _ .vmem, ⟨6, _⟩ => ⟨S1x1024x4096, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S2x4x1024 : Shape := ⟨3, ![2, 4, 1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1x4x1024 : Shape := ⟨3, ![1, 4, 1024]⟩
abbrev S4x1024 : Shape := ⟨2, ![4, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x4x1024, .f32⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S1x4x1024, .f32⟩
  | .hbm, ⟨7, _⟩ => ⟨S4x1024, .f32⟩
  | .hbm, ⟨8, _⟩ => ⟨S1024x1024, .f32⟩
  | .hbm, ⟨9, _⟩ => ⟨S2x8192x1024, .f32⟩
  | .hbm, ⟨10, _⟩ => ⟨S1x1024, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S1x1024, .f32⟩
  | .hbm, ⟨30, _⟩ => ⟨S1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S1x1024x4096, .f32⟩
  | .hbm, ⟨48, _⟩ => ⟨S1024x4096, .f32⟩
  | .hbm, ⟨49, _⟩ => ⟨S1x4096x1024, .f32⟩
  | .hbm, ⟨50, _⟩ => ⟨S4096x1024, .f32⟩
  | .hbm, ⟨51, _⟩ => ⟨S2x8192x4096, .f32⟩
  | .hbm, ⟨52, _⟩ => ⟨S_, .f32⟩
  | .hbm, ⟨53, _⟩ => ⟨S2x8192x4096, .f32⟩
  | .hbm, ⟨54, _⟩ => ⟨S2x8192x4096, .f32⟩
  | .hbm, ⟨55, _⟩ => ⟨S2x8192x4096, .f32⟩
  | .hbm, ⟨56, _⟩ => ⟨S2x8192x1024, .f32⟩
  | .hbm, ⟨57, _⟩ => ⟨S1x1024, .f32⟩
  | .hbm, ⟨58, _⟩ => ⟨S1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_cst : Ref sig .tc := ⟨.hbm, 52, rfl⟩
abbrev main_call0_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x4x1024 : Shape := ⟨3, ![2, 4, 1024]⟩
abbrev S1x1024x2120 : Shape := ⟨3, ![1, 1024, 2120]⟩
abbrev S2x8x8192 : Shape := ⟨3, ![2, 8, 8192]⟩
abbrev S1024x2120 : Shape := ⟨2, ![1024, 2120]⟩
abbrev S2120x1024 : Shape := ⟨2, ![2120, 1024]⟩
abbrev S2048x1024 : Shape := ⟨2, ![2048, 1024]⟩
abbrev S64x1024 : Shape := ⟨2, ![64, 1024]⟩
abbrev S_ : Shape := ⟨0, ![]⟩
abbrev S128x1024 : Shape := ⟨2, ![128, 1024]⟩
abbrev S8x1024 : Shape := ⟨2, ![8, 1024]⟩
abbrev S16x1024 : Shape := ⟨2, ![16, 1024]⟩
abbrev S2192x1024 : Shape := ⟨2, ![2192, 1024]⟩
abbrev S1x1x1024 : Shape := ⟨3, ![1, 1, 1024]⟩
abbrev S1024 : Shape := ⟨1, ![1024]⟩
abbrev S1x1024 : Shape := ⟨2, ![1, 1024]⟩
abbrev S2x1024x8192 : Shape := ⟨3, ![2, 1024, 8192]⟩
abbrev S2x8192x256 : Shape := ⟨3, ![2, 8192, 256]⟩
abbrev S2x16x320x512 : Shape := ⟨4, ![2, 16, 320, 512]⟩
abbrev S2x512x8192 : Shape := ⟨3, ![2, 512, 8192]⟩
abbrev S2x8192x128 : Shape := ⟨3, ![2, 8192, 128]⟩
abbrev S1x512x1024 : Shape := ⟨3, ![1, 512, 1024]⟩
abbrev S1x8x512 : Shape := ⟨3, ![1, 8, 512]⟩
abbrev S1x1024x512 : Shape := ⟨3, ![1, 1024, 512]⟩
abbrev S1x512x256 : Shape := ⟨3, ![1, 512, 256]⟩
abbrev S1x1x320x512 : Shape := ⟨4, ![1, 1, 320, 512]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S8x512 : Shape := ⟨2, ![8, 512]⟩
abbrev S1024x1024 : Shape := ⟨2, ![1024, 1024]⟩
abbrev S1024x512 : Shape := ⟨2, ![1024, 512]⟩
abbrev S48x512 : Shape := ⟨2, ![48, 512]⟩
abbrev S256x1024 : Shape := ⟨2, ![256, 1024]⟩
abbrev S256x512 : Shape := ⟨2, ![256, 512]⟩
abbrev S512x256 : Shape := ⟨2, ![512, 256]⟩
abbrev S16x512 : Shape := ⟨2, ![16, 512]⟩
abbrev S64x512 : Shape := ⟨2, ![64, 512]⟩
abbrev S320x512 : Shape := ⟨2, ![320, 512]⟩
abbrev S512x512 : Shape := ⟨2, ![512, 512]⟩
abbrev S128x512 : Shape := ⟨2, ![128, 512]⟩
abbrev S512x128 : Shape := ⟨2, ![512, 128]⟩

abbrev nBuf : Space → Nat
  | .hbm => 27
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x4x1024, .f32⟩
  | .hbm, ⟨2, _⟩ => ⟨S1x1024x2120, .f32⟩
  | .hbm, ⟨3, _⟩ => ⟨S2x8x8192, .f32⟩
  | .hbm, ⟨4, _⟩ => ⟨S2x8x8192, .f32⟩
  | .hbm, ⟨5, _⟩ => ⟨S1024x2120, .f32⟩
  | .hbm, ⟨6, _⟩ => ⟨S2120x1024, .f32⟩
  | .hbm, ⟨7, _⟩ => ⟨S2048x1024, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S128x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S16x1024, .f32⟩
  | .hbm, ⟨16, _⟩ => ⟨S2192x1024, .f32⟩
  | .hbm, ⟨17, _⟩ => ⟨S2192x1024, .bf16⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S2x1024x8192, .bf16⟩
  | .hbm, ⟨22, _⟩ => ⟨S2x8192x256, .bf16⟩
  | .hbm, ⟨23, _⟩ => ⟨S2x16x320x512, .bf16⟩
  | .hbm, ⟨24, _⟩ => ⟨S2x512x8192, .bf16⟩
  | .hbm, ⟨25, _⟩ => ⟨S2x8192x128, .bf16⟩
  | .hbm, ⟨26, _⟩ => ⟨S2x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S2192x1024, .bf16⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x512x256, .bf16⟩
  | .local _ .vmem, ⟨11, _⟩ => ⟨S1x512x256, .bf16⟩
  | .local _ .vmem, ⟨12, _⟩ => ⟨S1x1x320x512, .bf16⟩
  | .local _ .vmem, ⟨13, _⟩ => ⟨S1x1x320x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x128, .bf16⟩
  | .local _ .vmem, ⟨17, _⟩ => ⟨S1x512x128, .bf16⟩
  | .local _ .vmem, ⟨18, _⟩ => ⟨S1x8x512, .f32⟩
  | .local _ .vmem, ⟨19, _⟩ => ⟨S1x8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x320x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S2x8192x1024 : Shape := ⟨3, ![2, 8192, 1024]⟩
abbrev S2x4x1024 : Shape := ⟨3, ![2, 4, 1024]⟩
abbrev S1x1024x2120 : Shape := ⟨3, ![1, 1024, 2120]⟩
abbrev S2x8x8192 : Shape := ⟨3, ![2, 8, 8192]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2120 : Shape := ⟨2, ![1024, 2120]⟩
abbrev S2x8192x2120 : Shape := ⟨3, ![2, 8192, 2120]⟩
abbrev S2x8192x256 : Shape := ⟨3, ![2, 8192, 256]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x16x64 : Shape := ⟨4, ![2, 8192, 16, 64]⟩
abbrev S2x8192x1x8 : Shape := ⟨4, ![2, 8192, 1, 8]⟩
abbrev S2x8192x16x8 : Shape := ⟨4, ![2, 8192, 16, 8]⟩
abbrev S2x8192x16x16 : Shape := ⟨4, ![2, 8192, 16, 16]⟩
abbrev S2x8192x16x48 : Shape := ⟨4, ![2, 8192, 16, 48]⟩
abbrev S2x8192x4x64 : Shape := ⟨4, ![2, 8192, 4, 64]⟩
abbrev S2x8192x4x8 : Shape := ⟨4, ![2, 8192, 4, 8]⟩
abbrev S2x8192x4x16 : Shape := ⟨4, ![2, 8192, 4, 16]⟩
abbrev S2x8192x4x48 : Shape := ⟨4, ![2, 8192, 4, 48]⟩
abbrev S2x8192x8x64 : Shape := ⟨4, ![2, 8192, 8, 64]⟩
abbrev S2x8192x8x8 : Shape := ⟨4, ![2, 8192, 8, 8]⟩
abbrev S2x8192x8x16 : Shape := ⟨4, ![2, 8192, 8, 16]⟩
abbrev S2x8192x8x48 : Shape := ⟨4, ![2, 8192, 8, 48]⟩
abbrev S2x8192x1x64 : Shape := ⟨4, ![2, 8192, 1, 64]⟩
abbrev S2x8192x1x16 : Shape := ⟨4, ![2, 8192, 1, 16]⟩
abbrev S2x8192x1x48 : Shape := ⟨4, ![2, 8192, 1, 48]⟩
abbrev S2x8192x4x80 : Shape := ⟨4, ![2, 8192, 4, 80]⟩
abbrev S2x16x512x320 : Shape := ⟨4, ![2, 16, 512, 320]⟩
abbrev S2x8192x128 : Shape := ⟨3, ![2, 8192, 128]⟩
abbrev S2x1024x8192 : Shape := ⟨3, ![2, 1024, 8192]⟩
abbrev S2x16x320x512 : Shape := ⟨4, ![2, 16, 320, 512]⟩
abbrev S2x512x8192 : Shape := ⟨3, ![2, 512, 8192]⟩

abbrev nBuf : Space → Nat
  | .hbm => 136
  | .vmem => 0
  | .smem => 0
  | _ => 0

abbrev hbmTy0_0 (i : Nat) : BufTy := match i % 128 with
  | 0 => ⟨S2x8192x1024, .f32⟩
  | 1 => ⟨S2x4x1024, .f32⟩
  | 2 => ⟨S1x1024x2120, .f32⟩
  | 3 => ⟨S2x8x8192, .f32⟩
  | 4 => ⟨S2x8x8192, .f32⟩
  | 5 => ⟨S1x4x1024, .f32⟩
  | 6 => ⟨S4x1024, .f32⟩
  | 7 => ⟨S1x1024, .f32⟩
  | 8 => ⟨S1024, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S1024x2120, .f32⟩
  | 26 => ⟨S2x8192x2120, .f32⟩
  | 27 => ⟨S2x8192x1024, .f32⟩
  | 28 => ⟨S2x8192x256, .f32⟩
  | 29 => ⟨S2x8192x256, .f32⟩
  | 30 => ⟨S2x8192x512, .f32⟩
  | 31 => ⟨S2x8192x64, .f32⟩
  | 32 => ⟨S2x8192x8, .f32⟩
  | 33 => ⟨S2x8192x16x64, .f32⟩
  | 34 => ⟨S2x8192x8, .f32⟩
  | 35 => ⟨S2x8192x1x8, .f32⟩
  | 36 => ⟨S2x8192x8, .f32⟩
  | 37 => ⟨S2x8192x1x8, .f32⟩
  | 38 => ⟨S2x8192x16x8, .f32⟩
  | 39 => ⟨S2x8192x16x8, .f32⟩
  | 40 => ⟨S2x8192x16x8, .f32⟩
  | 41 => ⟨S2x8192x16x8, .f32⟩
  | 42 => ⟨S2x8192x16x8, .f32⟩
  | 43 => ⟨S2x8192x16x8, .f32⟩
  | 44 => ⟨S2x8192x16x8, .f32⟩
  | 45 => ⟨S2x8192x16x8, .f32⟩
  | 46 => ⟨S2x8192x16x8, .f32⟩
  | 47 => ⟨S2x8192x16x8, .f32⟩
  | 48 => ⟨S2x8192x16x8, .f32⟩
  | 49 => ⟨S2x8192x16x8, .f32⟩
  | 50 => ⟨S2x8192x16x16, .f32⟩
  | 51 => ⟨S2x8192x16x48, .f32⟩
  | 52 => ⟨S2x8192x16x64, .f32⟩
  | 53 => ⟨S2x8192x4x64, .f32⟩
  | 54 => ⟨S2x8192x8, .f32⟩
  | 55 => ⟨S2x8192x1x8, .f32⟩
  | 56 => ⟨S2x8192x8, .f32⟩
  | 57 => ⟨S2x8192x1x8, .f32⟩
  | 58 => ⟨S2x8192x4x8, .f32⟩
  | 59 => ⟨S2x8192x4x8, .f32⟩
  | 60 => ⟨S2x8192x4x8, .f32⟩
  | 61 => ⟨S2x8192x4x8, .f32⟩
  | 62 => ⟨S2x8192x4x8, .f32⟩
  | 63 => ⟨S2x8192x4x8, .f32⟩
  | 64 => ⟨S2x8192x4x8, .f32⟩
  | 65 => ⟨S2x8192x4x8, .f32⟩
  | 66 => ⟨S2x8192x4x8, .f32⟩
  | 67 => ⟨S2x8192x4x8, .f32⟩
  | 68 => ⟨S2x8192x4x8, .f32⟩
  | 69 => ⟨S2x8192x4x8, .f32⟩
  | 70 => ⟨S2x8192x4x16, .f32⟩
  | 71 => ⟨S2x8192x4x48, .f32⟩
  | 72 => ⟨S2x8192x4x64, .f32⟩
  | 73 => ⟨S2x8192x4x64, .f32⟩
  | 74 => ⟨S2x8192x8x64, .f32⟩
  | 75 => ⟨S2x8192x8, .f32⟩
  | 76 => ⟨S2x8192x1x8, .f32⟩
  | 77 => ⟨S2x8192x8, .f32⟩
  | 78 => ⟨S2x8192x1x8, .f32⟩
  | 79 => ⟨S2x8192x8x8, .f32⟩
  | 80 => ⟨S2x8192x8x8, .f32⟩
  | 81 => ⟨S2x8192x8x8, .f32⟩
  | 82 => ⟨S2x8192x8x8, .f32⟩
  | 83 => ⟨S2x8192x8x8, .f32⟩
  | 84 => ⟨S2x8192x8x8, .f32⟩
  | 85 => ⟨S2x8192x8x8, .f32⟩
  | 86 => ⟨S2x8192x8x8, .f32⟩
  | 87 => ⟨S2x8192x8x8, .f32⟩
  | 88 => ⟨S2x8192x8x8, .f32⟩
  | 89 => ⟨S2x8192x8x8, .f32⟩
  | 90 => ⟨S2x8192x8x8, .f32⟩
  | 91 => ⟨S2x8192x8x16, .f32⟩
  | 92 => ⟨S2x8192x8x48, .f32⟩
  | 93 => ⟨S2x8192x8x64, .f32⟩
  | 94 => ⟨S2x8192x1x64, .f32⟩
  | 95 => ⟨S2x8192x8, .f32⟩
  | 96 => ⟨S2x8192x1x8, .f32⟩
  | 97 => ⟨S2x8192x8, .f32⟩
  | 98 => ⟨S2x8192x1x8, .f32⟩
  | 99 => ⟨S2x8192x1x8, .f32⟩
  | 100 => ⟨S2x8192x1x8, .f32⟩
  | 101 => ⟨S2x8192x1x8, .f32⟩
  | 102 => ⟨S2x8192x1x8, .f32⟩
  | 103 => ⟨S2x8192x1x8, .f32⟩
  | 104 => ⟨S2x8192x1x8, .f32⟩
  | 105 => ⟨S2x8192x1x8, .f32⟩
  | 106 => ⟨S2x8192x1x8, .f32⟩
  | 107 => ⟨S2x8192x1x16, .f32⟩
  | 108 => ⟨S2x8192x1x48, .f32⟩
  | 109 => ⟨S2x8192x1x64, .f32⟩
  | 110 => ⟨S2x8192x64, .f32⟩
  | 111 => ⟨S_, .f32⟩
  | 112 => ⟨S2x8192x8, .f32⟩
  | 113 => ⟨S2x8192x8, .f32⟩
  | 114 => ⟨S_, .f32⟩
  | 115 => ⟨S2x8192x16x64, .f32⟩
  | 116 => ⟨S2x8192x16x64, .f32⟩
  | 117 => ⟨S_, .f32⟩
  | 118 => ⟨S2x8192x4x16, .f32⟩
  | 119 => ⟨S2x8192x4x80, .f32⟩
  | 120 => ⟨S2x16x512x320, .f32⟩
  | 121 => ⟨S_, .f32⟩
  | 122 => ⟨S2x8192x64, .f32⟩
  | 123 => ⟨S2x8192x128, .f32⟩
  | 124 => ⟨S2x8192x1024, .f32⟩
  | 125 => ⟨S2x1024x8192, .f32⟩
  | 126 => ⟨S2x8192x256, .f32⟩
  | 127 => ⟨S2x16x320x512, .f32⟩
  | _ => ⟨S2x8192x1024, .f32⟩

abbrev hbmTy0_1 (i : Nat) : BufTy := match i % 128 with
  | 0 => ⟨S2x8192x512, .f32⟩
  | 1 => ⟨S2x512x8192, .f32⟩
  | 2 => ⟨S2x1024x8192, .bf16⟩
  | 3 => ⟨S2x8192x256, .bf16⟩
  | 4 => ⟨S2x16x320x512, .bf16⟩
  | 5 => ⟨S2x512x8192, .bf16⟩
  | 6 => ⟨S2x8192x128, .bf16⟩
  | 7 => ⟨S2x8x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_cst_2 : Ref sig .tc := ⟨.hbm, 111, rfl⟩
abbrev main_v103 : Ref sig .tc := ⟨.hbm, 112, rfl⟩
abbrev main_v104 : Ref sig .tc := ⟨.hbm, 113, rfl⟩
abbrev main_cst_3 : Ref sig .tc := ⟨.hbm, 114, rfl⟩
abbrev main_v105 : Ref sig .tc := ⟨.hbm, 115, rfl⟩
abbrev main_v106 : Ref sig .tc := ⟨.hbm, 116, rfl⟩
abbrev main_cst_4 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_cst_5 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩

abbrev nD : Nat := 1
abbrev τ : Topo := Topo.v7x

variable {F : FTy → Type} [FloatOps F]
-- ==== Proof.Safe.lean ====
/-
  Hand-written. A small logic for frames. The kernel of `proof.Kernel` only loads from, and stores to, buffers it holds; what it
  stores is irrelevant to the frame claim. So one resource `H` is fixed — the inputs' staging buffers at their contents, the output's
  and the scratch at some contents — and a program is `Safe` for `H` when it runs to its end from `H` and hands `H` back. The rules
  below say that returning, sequencing, loading, storing, looping and branching keep a program safe.
-/
module

public import proofs.«01_k».proof.Proof.Gen.Kernel
public import Idealize.ShloMosaic.Lib.Tactic
public import Idealize.ShloMosaic.Lib.Scf
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [BitOps F]

abbrev MM (F : FTy → Type) : Type := MT nD τ sig Unit (Elt F) ℕ (UR sig nD τ) ℕ

/-- `H` can lend `m`'s buffer whole, to be handed back with the same contents. -/
def Lends (H : sProp (MM F)) (c : Dev nD) {s : Shape} {e : EltTy} (m : Memref sig .tc .vmem s e) : Prop :=
  H ⊢ iprop(∃ f : Buf (Elt F) (m.view.loc (c : Thread nD τ)), (m.view.loc (c : Thread nD τ) ↦{fullShare} f)
    ∗ ((m.view.loc (c : Thread nD τ) ↦{fullShare} f) -∗ H))

/-- `H` can give `m`'s buffer whole, to be handed back with any contents. -/
def Gives (H : sProp (MM F)) (c : Dev nD) {s : Shape} {e : EltTy} (m : Memref sig .tc .vmem s e) : Prop :=
  H ⊢ iprop((∃ f : Buf (Elt F) (m.view.loc (c : Thread nD τ)), m.view.loc (c : Thread nD τ) ↦{fullShare} f)
    ∗ (∀ f : Buf (Elt F) (m.view.loc (c : Thread nD τ)), (m.view.loc (c : Thread nD τ) ↦{fullShare} f) -∗ H))

/-- From `H` the program runs to its end and hands `H` back. -/
def Safe (H : sProp (MM F)) (c : Dev nD) {α : Type} (p : Prog (TpuEff nD τ sig (Elt F) Λ₀ .tc) α) : Prop :=
  H ⊢ wp frame (wpE (defs₀ (F := F)) Variants.none c none) Set.univ p (fun _ => H)

variable {H : sProp (MM F)} {c : Dev nD}

theorem Gives.lends {s : Shape} {e : EltTy} {m : Memref sig .tc .vmem s e} (h : Gives H c m) : Lends H c m := by
  unfold Lends Gives at *
  refine h.trans ?_
  iintro ⟨⟨%f, Hf⟩, HK⟩
  iexists f
  isplitl [Hf]
  · iexact Hf
  · iapply HK

/- The value instance is an ordinary implicit argument of the rules, found by unification. -/
section Rules

variable {F : FTy → Type} {iF : BitOps F} {H : sProp (MM F)} {c : Dev nD}

theorem safe_pure {α : Type} (a : α) : Safe H c (pure a) := by
  unfold Safe
  show H ⊢ wp frame _ Set.univ (.ret a) _
  rw [wp_ret]
  iintro HH
  imodintro
  iexact HH

theorem safe_bind {α β : Type} {p : Prog (TpuEff nD τ sig (Elt F) Λ₀ .tc) α} {k : α → Prog (TpuEff nD τ sig (Elt F) Λ₀ .tc) β}
    (hp : Safe H c p) (hk : ∀ a, Safe H c (k a)) : Safe H c (p >>= k) := by
  unfold Safe at *
  rw [wp_bind]
  exact hp.trans (wp_mono _ _ _ hk)

theorem safe_load {s : Shape} {e : EltTy} {m : Memref sig .tc .vmem s e} (hm : Lends H c m) (r : LoadRect s) (hl : m.view.LoadsAt r) :
    Safe (F := F) H c (Prog.lift (.load m r hl)) := by
  unfold Safe
  unfold Lends at hm
  refine hm.trans ?_
  unfold Prog.lift
  iintro ⟨%f, Hf, HK⟩
  iapply (wp_load Variants.none (c : Thread nD τ) none Set.univ (S := Finset.univ) (Finset.subset_univ _)) $$ Hf
  iintro Hf
  rw [wp_ret]
  imodintro
  iapply HK
  iexact Hf

theorem safe_store {s : Shape} {e : EltTy} {m : Memref sig .tc .vmem s e} (hm : Gives H c m) (r : Rect s) (w : r.shape.Idx → Elt F e)
    (Mk : Finset r.shape.Idx) (hx : (m.access r).Stores Mk) (hu : Mk = Finset.univ ∨ ∀ a, r.stride a = 1) :
    Safe (F := F) H c (Prog.lift (.store m r w Mk hx hu)) := by
  unfold Safe
  unfold Gives at hm
  refine hm.trans ?_
  unfold Prog.lift
  iintro ⟨⟨%f, Hf⟩, HK⟩
  have h := fun (k : PUnit → Prog (TpuEff nD τ sig (Elt F) Λ₀ .tc) PUnit) (Q : PUnit → sProp (MM F)) =>
    wp_store (defs := defs₀ (F := F)) Variants.none (c : Thread nD τ) none Set.univ (m := m) (r := r) (w := w) (Mk := Mk) (hx := hx)
      (hm := hu) (f := f) (S := Finset.univ) (Γ := .empty) (k := k) (Q := Q) (Finset.subset_univ _)
  iapply (h _ _) $$ Hf
  iintro Hf
  rw [wp_ret]
  imodintro
  iapply HK
  iexact Hf

theorem safe_for {w : Nat} {σ : Type} (lb ub st : BitVec w) (hok : Scf.OK lb ub st) (init : σ)
    (body : Fin (Scf.trips lb ub st) → σ → Prog (TpuEff nD τ sig (Elt F) Λ₀ .tc) σ)
    (hb : ∀ k acc, Safe H c (body k acc)) : Safe H c (Scf.for lb ub st hok init body) := by
  unfold Safe at *
  refine BIBase.Entails.trans ?_ (Scf.wp_for _ _ _ lb ub st hok init body (fun _ _ => H) hb)
  iintro HH
  isplitl [HH]
  · iexact HH
  · iintro %_ HH
    iexact HH

theorem safe_if {α : Type} {b : Prop} [Decidable b] {p q : Prog (TpuEff nD τ sig (Elt F) Λ₀ .tc) α}
    (hp : Safe H c p) (hq : Safe H c q) : Safe H c (if b then p else q) := by
  split <;> assumption

theorem safe_dite {α : Type} {b : Prop} [Decidable b] {p : b → Prog (TpuEff nD τ sig (Elt F) Λ₀ .tc) α}
    {q : ¬ b → Prog (TpuEff nD τ sig (Elt F) Λ₀ .tc) α}
    (hp : ∀ h, Safe H c (p h)) (hq : ∀ h, Safe H c (q h)) : Safe H c (if h : b then p h else q h) := by
  split
  · exact hp _
  · exact hq _

end Rules

/-- Safety after a step whose value is a dependent pair: for any two components. -/
theorem safe_pair {α β : Type} {P : (Σ' _ : α, β) → Prop} (h : ∀ a b, P ⟨a, b⟩) : ∀ x, P x := fun x => h x.1 x.2

end Cert.Kernel.Hand

end
-- ==== Proof.Lend.lean ====
/-
  Hand-written. What the rules of `Proof.Safe` ask of the resource, proved of the pieces it is made of: an input's staging buffer at fixed
  contents is lent, the output's and a scratch buffer at some contents are given, and a separating conjunction lends and gives what either
  side does.
-/
module

public import proofs.«01_k».proof.Proof.Safe

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [BitOps F] {c : Dev nD} {s : Shape} {e : EltTy} {m : Memref sig .tc .vmem s e}

theorem lends_owns (hm : m.IsWhole) (X : s.Idx → Elt F e) : Lends (F := F) (owns (c : Thread nD τ) m fullShare X) c m := by
  unfold Lends owns
  rw [hm.set_eq_univ]
  iintro ⟨%f, %hf, Hf⟩
  iexists f
  isplitl [Hf]
  · iexact Hf
  iintro Hf
  iexists f
  isplitr
  · ipureintro; exact hf
  iexact Hf

theorem gives_owns (hm : m.IsWhole) : Gives (F := F) iprop(∃ X, owns (c : Thread nD τ) m fullShare X) c m := by
  unfold Gives owns
  rw [hm.set_eq_univ]
  iintro ⟨%X, %f, -, Hf⟩
  isplitl [Hf]
  · iexists f; iexact Hf
  iintro %f' Hf
  iexists (m.view.read (Elt F) f'), f'
  isplitr
  · ipureintro; rfl
  iexact Hf

theorem gives_scratch (m : Memref sig .tc .vmem s e) :
    Gives (F := F) iprop(∃ f : Buf (Elt F) (m.view.loc (c : Thread nD τ)), m.view.loc (c : Thread nD τ) ↦{fullShare} f) c m := by
  unfold Gives
  iintro ⟨%f, Hf⟩
  isplitl [Hf]
  · iexists f; iexact Hf
  iintro %f' Hf
  iexists f'
  iexact Hf

theorem Lends.left {A : sProp (MM F)} (h : Lends A c m) (B : sProp (MM F)) : Lends iprop(A ∗ B) c m := by
  unfold Lends at *
  iintro ⟨HA, HB⟩
  ihave HA := h $$ HA
  icases HA with ⟨%f, Hf, HK⟩
  iexists f
  isplitl [Hf]
  · iexact Hf
  iintro Hf
  isplitl [Hf HK]
  · iapply HK; iexact Hf
  iexact HB

theorem Lends.right {B : sProp (MM F)} (h : Lends B c m) (A : sProp (MM F)) : Lends iprop(A ∗ B) c m := by
  unfold Lends at *
  iintro ⟨HA, HB⟩
  ihave HB := h $$ HB
  icases HB with ⟨%f, Hf, HK⟩
  iexists f
  isplitl [Hf]
  · iexact Hf
  iintro Hf
  isplitl [HA]
  · iexact HA
  iapply HK; iexact Hf

theorem Gives.left {A : sProp (MM F)} (h : Gives A c m) (B : sProp (MM F)) : Gives iprop(A ∗ B) c m := by
  unfold Gives at *
  iintro ⟨HA, HB⟩
  ihave HA := h $$ HA
  icases HA with ⟨Hf, HK⟩
  isplitl [Hf]
  · iexact Hf
  iintro %f Hf
  isplitl [Hf HK]
  · iapply HK; iexact Hf
  iexact HB

theorem Gives.right {B : sProp (MM F)} (h : Gives B c m) (A : sProp (MM F)) : Gives iprop(A ∗ B) c m := by
  unfold Gives at *
  iintro ⟨HA, HB⟩
  ihave HB := h $$ HB
  icases HB with ⟨Hf, HK⟩
  isplitl [Hf]
  · iexact Hf
  iintro %f Hf
  isplitl [HA]
  · iexact HA
  iapply HK; iexact Hf

end Cert.Kernel.Hand

end
-- ==== Proof.Walk.lean ====
/-
  Hand-written. The kernel's body is safe (`Safe`): it only loads the inputs' staging buffers, and loads and stores the output's and the
  scratch. One application of the rules of `Proof.Safe` per statement, by the program's shape.
-/
module

public import proofs.«01_k».proof.Proof.Safe

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem

variable {F : FTy → Type} [BitOps F] {H : sProp (MM F)} {c : Dev nD}

set_option maxHeartbeats 0 in
theorem safe_kernel (i : grid0.Coords)
    (arg2 : Memref sig .tc .vmem S1x1024x128 .bf16) (harg2 : arg2.IsWhole)
    (arg3 : Memref sig .tc .vmem S1x512x128 .bf16) (harg3 : arg3.IsWhole)
    (arg4 : Memref sig .tc .vmem S1x8x128 .f32) (harg4 : arg4.IsWhole)
    (arg5 : Memref sig .tc .vmem S1x8192x256 .bf16) (harg5 : arg5.IsWhole)
    (arg6 : Memref sig .tc .vmem S1x8192x128 .bf16) (harg6 : arg6.IsWhole)
    (arg7 : Memref sig .tc .vmem S1x16x320x512 .bf16) (harg7 : arg7.IsWhole)
    (arg8 : Memref sig .tc .vmem S1x128x1024 .bf16) (harg8 : arg8.IsWhole)
    (arg9 : Memref sig .tc .vmem S8192x128 .i32) (harg9 : arg9.IsWhole)
    (arg10 : Memref sig .tc .vmem S32x256x128 .i32) (harg10 : arg10.IsWhole)
    (arg11 : Memref sig .tc .vmem S4x256x512 .bf16) (harg11 : arg11.IsWhole)
    (arg12 : Memref sig .tc .vmem S4x1x512 .f32) (harg12 : arg12.IsWhole)
    (arg13 : Memref sig .tc .vmem S4x80x512 .f32) (harg13 : arg13.IsWhole)
    (arg14 : Memref sig .tc .vmem S2x1x128 .i32) (harg14 : arg14.IsWhole)
    (arg15 : Memref sig .tc .vmem S2x512x512 .f32) (harg15 : arg15.IsWhole)
    (arg16 : Memref sig .tc .vmem S2x512x512 .bf16) (harg16 : arg16.IsWhole)
    (arg17 : Memref sig .tc .vmem S2x1x512 .f32) (harg17 : arg17.IsWhole)
    (arg18 : Memref sig .tc .vmem S8192x128 .bf16) (harg18 : arg18.IsWhole)
    (arg19 : Memref sig .tc .vmem S2x512x512 .f32) (harg19 : arg19.IsWhole)
    (arg20 : Memref sig .tc .vmem S512x128 .f32) (harg20 : arg20.IsWhole)
    (l2 : Lends H c arg2) (l3 : Lends H c arg3) (l4 : Lends H c arg4) (l5 : Lends H c arg5) (l6 : Lends H c arg6) (l7 : Lends H c arg7)
    (g8 : Gives H c arg8) (g9 : Gives H c arg9) (g10 : Gives H c arg10) (g11 : Gives H c arg11) (g12 : Gives H c arg12) (g13 : Gives H c arg13) (g14 : Gives H c arg14) (g15 : Gives H c arg15) (g16 : Gives H c arg16) (g17 : Gives H c arg17) (g18 : Gives H c arg18) (g19 : Gives H c arg19) (g20 : Gives H c arg20) :
    Safe (F := F) H c (cc0_dsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  have l8 := g8.lends; have l9 := g9.lends; have l10 := g10.lends; have l11 := g11.lends; have l12 := g12.lends; have l13 := g13.lends; have l14 := g14.lends; have l15 := g15.lends; have l16 := g16.lends; have l17 := g17.lends; have l18 := g18.lends; have l19 := g19.lends; have l20 := g20.lends
  repeat' first
    | with_reducible refine safe_pair fun _ => ?_
    | with_reducible intro _
    | with_reducible refine safe_bind ?_ ?_
    | with_reducible exact safe_pure _
    | with_reducible exact safe_load (by assumption) _ _
    | with_reducible exact safe_store (by assumption) _ _ _ _ _
    | with_reducible refine safe_for _ _ _ _ _ _ fun _ _ => ?_
    | with_reducible refine safe_if ?_ ?_
    | with_reducible refine safe_dite (fun _ => ?_) (fun _ => ?_)
    | delta cc0_dsa_attention k0_part1 k0_part2 k0_part3 k0_part4 k0_part5 k0_part6 k0_part7 k0_part8 k0_part9 k0_part10 k0_part11 k0_part12
        k0_part13 k0_part14 k0_part15 k0_part16 k0_part17 k0_part18 k0_part19 k0_part20 k0_part21 k0_part22 k0_part23 k0_part24
        k0_part25 k0_part26 k0_part27 k0_part28 k0_part29 k0_part30 k0_part31 k0_part32 k0_part33 k0_part34 k0_part35 k0_part36
        k0_part37 k0_part38 k0_part39 k0_part40 k0_part41 k0_part42 k0_part43 k0_part44 k0_part45 k0_part46 k0_part47 k0_part48
        k0_part49 k0_part50 k0_part51 k0_part52 k0_part53 k0_part54 k0_part55 k0_part56 k0_part57 k0_part58 k0_part59 k0_part60
        k0_part61 k0_part62 k0_part63 k0_part64 k0_part65 k0_part66 k0_part67 k0_part68 k0_part69 k0_part70 k0_part71 k0_part72
        k0_part73 k0_part74 k0_part75 k0_part76 k0_part77 k0_part78 k0_part79 k0_part80 k0_part81 k0_part82 k0_part83 k0_part84
        k0_part85 k0_part86 k0_part87 k0_part88 k0_part89 k0_part90 k0_part91 k0_part92 k0_part93 k0_part94 k0_part95 k0_part96
        k0_part97 k0_part98 k0_part99 k0_part100 k0_part101 k0_part102 k0_part103 k0_part104 k0_part105 k0_part106 k0_part107
        k0_part108 k0_part109 k0_part110 k0_part111 k0_part112 k0_part113 k0_part114 k0_part115 k0_part116 k0_part117 k0_part118
        k0_part119 k0_part120 k0_part121 k0_part122 k0_part123 k0_part124 k0_part125 k0_part126 k0_part127 k0_part128 k0_part129
        k0_part130 k0_part131 k0_part132 k0_part133 k0_part134 k0_part135 k0_part136 k0_part137 k0_part138 k0_part139 k0_part140
        k0_part141 k0_part142 k0_part143 k0_part144 k0_part145 k0_part146 k0_part147 k0_part148 k0_part149 k0_part150 k0_part151
        k0_part152 k0_part153 k0_part154 k0_part155 k0_part156 k0_part157 k0_part158 k0_part159 k0_part160 k0_part161 k0_part162
        k0_part163 k0_part164 k0_part165 k0_part166 k0_part167 k0_part168 k0_part169 k0_part170 k0_part171 k0_part172 k0_part173
        k0_part174 k0_part175 k0_part176 k0_part177 k0_part178 k0_part179 k0_part180 k0_part181 k0_part182 k0_part183 k0_part184
        k0_part185 k0_part186 k0_part187 k0_part188 k0_part189 k0_part190 k0_part191 k0_part192 k0_part193 k0_part194 k0_part195
        k0_part196 k0_part197 k0_part198 k0_part199 k0_part200 k0_part201 k0_part202 k0_part203 k0_part204 k0_part205 k0_part206
        k0_part207 k0_part208 k0_part209 k0_part210 k0_part211 k0_part212 k0_part213 k0_part214 k0_part215 k0_part216 k0_part217
        k0_part218 k0_part219 k0_part220 k0_part221 k0_part222 k0_part223 k0_part224 k0_part225 k0_part226 k0_part227 k0_part228
        k0_part229 k0_part230 k0_part231 k0_part232 k0_part233 k0_part234 k0_part235 k0_part236 k0_part237 k0_part238 k0_part239
        k0_part240 k0_part241 k0_part242 k0_part243 k0_part244 k0_part245 k0_part246 k0_part247 k0_part248 k0_part249 k0_part250

end Cert.Kernel.Hand

end
-- ==== Proof.Run.lean ====
/-
  Hand-written. The frame of `Kernel` (version 05's sparse attention call): the body is safe at every grid point (`Proof.Walk`), so the
  pipeline runs to its end, the six inputs are as they were and every semaphore counter is zero. The output window is forgotten: nothing
  is said of what the kernel leaves there.
-/
module

public import proofs.«01_k».proof.Proof.Lend
public import proofs.«01_k».proof.Proof.Walk
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

variable (m : (ℓ : Loc nD τ sig) → Buf (Elt F) ℓ) (ρ : Dev nD → PrngReg)

/-- The output window, 6, is forgotten. -/
def forgets0 : Fin 7 → Bool := fun w => decide (w = 6)

/-- The proof data on core `c`: the arrays as the region finds them; each input's block left in place; the output unnamed. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Pipeline.Dat.unnamed (cfg := cfg0) 6 t
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- What the body holds at point `t` besides the scratch and the generator register: the inputs' blocks and the output's buffer. -/
def staged (c : Dev nD) (t : Fin cfg0.N) : sProp (MM F) :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ (∃ X, owns (c : Thread nD τ) (st0_6 t) fullShare X))

/-- Everything the body holds at point `t`, before it and after it. -/
def held (c : Dev nD) (t : Fin cfg0.N) (O : sProp (MM F)) : sProp (MM F) :=
  iprop(Pipeline.ΦA spec0 c ∗ O ∗ staged m c t)

/-- A scratch buffer is given by the invariant, as soon as it is by the scoped buffers' conjunction. -/
theorem gives_held {s : Shape} {e : EltTy} {M : Memref sig .tc .vmem s e} {c : Dev nD} (t : Fin cfg0.N) (O : sProp (MM F))
    (h : Gives (F := F) (Pipeline.scopedRest spec0 c) c M) : Gives (held m c t O) c M := by
  unfold held Pipeline.ΦA
  exact (h.left _).left _

/-! The scratch buffers, each among the core's scoped buffers. -/

theorem gives_scoped0 (c : Dev nD) : Gives (F := F) (Pipeline.scopedRest spec0 c) c (Memref.whole cc0_scratch0) := by
  rw [scopedRest0_eq]; exact ((gives_scratch (Memref.whole cc0_scratch0)).left _)
theorem gives_scoped1 (c : Dev nD) : Gives (F := F) (Pipeline.scopedRest spec0 c) c (Memref.whole cc0_scratch1) := by
  rw [scopedRest0_eq]; exact (((gives_scratch (Memref.whole cc0_scratch1)).left _).right _)
theorem gives_scoped2 (c : Dev nD) : Gives (F := F) (Pipeline.scopedRest spec0 c) c (Memref.whole cc0_scratch2) := by
  rw [scopedRest0_eq]; exact ((((gives_scratch (Memref.whole cc0_scratch2)).left _).right _).right _)
theorem gives_scoped3 (c : Dev nD) : Gives (F := F) (Pipeline.scopedRest spec0 c) c (Memref.whole cc0_scratch3) := by
  rw [scopedRest0_eq]; exact (((((gives_scratch (Memref.whole cc0_scratch3)).left _).right _).right _).right _)
theorem gives_scoped4 (c : Dev nD) : Gives (F := F) (Pipeline.scopedRest spec0 c) c (Memref.whole cc0_scratch4) := by
  rw [scopedRest0_eq]; exact ((((((gives_scratch (Memref.whole cc0_scratch4)).left _).right _).right _).right _).right _)
theorem gives_scoped5 (c : Dev nD) : Gives (F := F) (Pipeline.scopedRest spec0 c) c (Memref.whole cc0_scratch5) := by
  rw [scopedRest0_eq]; exact (((((((gives_scratch (Memref.whole cc0_scratch5)).left _).right _).right _).right _).right _).right _)
theorem gives_scoped6 (c : Dev nD) : Gives (F := F) (Pipeline.scopedRest spec0 c) c (Memref.whole cc0_scratch6) := by
  rw [scopedRest0_eq]; exact ((((((((gives_scratch (Memref.whole cc0_scratch6)).left _).right _).right _).right _).right _).right _).right _)
theorem gives_scoped7 (c : Dev nD) : Gives (F := F) (Pipeline.scopedRest spec0 c) c (Memref.whole cc0_scratch7) := by
  rw [scopedRest0_eq]; exact (((((((((gives_scratch (Memref.whole cc0_scratch7)).left _).right _).right _).right _).right _).right _).right _).right _)
theorem gives_scoped8 (c : Dev nD) : Gives (F := F) (Pipeline.scopedRest spec0 c) c (Memref.whole cc0_scratch8) := by
  rw [scopedRest0_eq]; exact ((((((((((gives_scratch (Memref.whole cc0_scratch8)).left _).right _).right _).right _).right _).right _).right _).right _).right _)
theorem gives_scoped9 (c : Dev nD) : Gives (F := F) (Pipeline.scopedRest spec0 c) c (Memref.whole cc0_scratch9) := by
  rw [scopedRest0_eq]; exact (((((((((((gives_scratch (Memref.whole cc0_scratch9)).left _).right _).right _).right _).right _).right _).right _).right _).right _).right _)
theorem gives_scoped10 (c : Dev nD) : Gives (F := F) (Pipeline.scopedRest spec0 c) c (Memref.whole cc0_scratch10) := by
  rw [scopedRest0_eq]; exact ((((((((((((gives_scratch (Memref.whole cc0_scratch10)).left _).right _).right _).right _).right _).right _).right _).right _).right _).right _).right _)
theorem gives_scoped11 (c : Dev nD) : Gives (F := F) (Pipeline.scopedRest spec0 c) c (Memref.whole cc0_scratch11) := by
  rw [scopedRest0_eq]; exact ((((((((((((gives_scratch (Memref.whole cc0_scratch11)).right _).right _).right _).right _).right _).right _).right _).right _).right _).right _).right _)

/-- The body at point `t` is safe for what it holds. -/
theorem safe_body (c : Dev nD) (t : Fin cfg0.N) (O : sProp (MM F)) : Safe (F := F) (held m c t O) c (bodyAt0 t) := by
  have hw := fun w => stage_whole0 w (cfg0.slots t w)
  unfold bodyAt0
  apply safe_kernel
  case l2 => exact ((((lends_owns (hw 0) _).left _).right _).right _)
  case l3 => exact (((((lends_owns (hw 1) _).left _).right _).right _).right _)
  case l4 => exact ((((((lends_owns (hw 2) _).left _).right _).right _).right _).right _)
  case l5 => exact (((((((lends_owns (hw 3) _).left _).right _).right _).right _).right _).right _)
  case l6 => exact ((((((((lends_owns (hw 4) _).left _).right _).right _).right _).right _).right _).right _)
  case l7 => exact (((((((((lends_owns (hw 5) _).left _).right _).right _).right _).right _).right _).right _).right _)
  case g8 => exact (((((((((gives_owns (hw 6)).right _).right _).right _).right _).right _).right _).right _).right _)
  case g9 => exact gives_held m t O (gives_scoped0 c)
  case g10 => exact gives_held m t O (gives_scoped1 c)
  case g11 => exact gives_held m t O (gives_scoped2 c)
  case g12 => exact gives_held m t O (gives_scoped3 c)
  case g13 => exact gives_held m t O (gives_scoped4 c)
  case g14 => exact gives_held m t O (gives_scoped5 c)
  case g15 => exact gives_held m t O (gives_scoped6 c)
  case g16 => exact gives_held m t O (gives_scoped7 c)
  case g17 => exact gives_held m t O (gives_scoped8 c)
  case g18 => exact gives_held m t O (gives_scoped9 c)
  case g19 => exact gives_held m t O (gives_scoped10 c)
  case g20 => exact gives_held m t O (gives_scoped11 c)

/-- What the body is called with at point `t`, and what it returns. -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- The body's triple in the pipeline's words: the inputs' buffers hold their blocks before the body and after it. -/
theorem sound_body (c : Dev nD) (t : Fin cfg0.N) :
    bodyPre m c t ⊢ wp frame (wpE (defs₀ (F := F)) Variants.none c none) Set.univ (bodyAt0 t) (fun _ => bodyPost m c t) := by
  have h := safe_body m c t ((dats m 0 c).owesAt () t.castSucc)
  unfold Safe at h
  refine BIBase.Entails.trans ?_ (h.trans (wp_mono _ _ _ fun _ => ?_))
  · unfold bodyPre held staged
    rw [show (dats m 0 c).Φ t.castSucc = Pipeline.ΦA spec0 c from rfl]
    simp only [before0_0_of m (dats m 0 c) (A_eq m c 0) (fun _ => rfl) t,
      before0_1_of m (dats m 0 c) (A_eq m c 1) (fun _ => rfl) t,
      before0_2_of m (dats m 0 c) (A_eq m c 2) (fun _ => rfl) t,
      before0_3_of m (dats m 0 c) (A_eq m c 3) (fun _ => rfl) t,
      before0_4_of m (dats m 0 c) (A_eq m c 4) (fun _ => rfl) t,
      before0_5_of m (dats m 0 c) (A_eq m c 5) (fun _ => rfl) t]
    iintro ⟨HΦ, HO, ⟨%_, H0⟩, ⟨%_, H1⟩, ⟨%_, H2⟩, ⟨%_, H3⟩, ⟨%_, H4⟩, ⟨%_, H5⟩, H6⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  · unfold bodyPost held staged
    exact .rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every execution of @main ends, the windows' arrays at what the data says, every other unscoped
    buffer at its launch contents, every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m}

/-- An input's array after the run is as it was launched. -/
theorem final_in {r : PUnit × MemSt nD τ sig (Elt F)}
    (h : Pipeline.RDat.FramePost (cfgs 0) (fun c => (dats (F := F) m 0 c).toRForget forgets0) (V m) r) (c : Dev nD)
    (w : Fin cfg0.W) (hi : (cfg0.win w).isOut = false) :
    r.2.mem ((c : Thread nD τ).loc (Pipeline.arrRef spec0 w)) = m ((c : Thread nD τ).loc (Pipeline.arrRef spec0 w)) :=
  (h.arr_in c w hi).trans (A_eq m c w)

end Cert.Kernel.Hand

end
-- ==== Proof.Row.lean ====
/- One row of the output projection, the two norms and the squared-ReLU layer, over the extended reals. -/
module

public import Idealize.ShloMosaic.PureOps.Ideal
public import Idealize.ShloMosaic.Lib.Pointwise.Index

@[expose] public section

noncomputable section

namespace Cert.Row

open Idealize.ShloMosaic
open scoped BigOperators

/-- A row divided by the root of its mean square (the small constant inside the root), times a gain. -/
def rms (v g : Fin 1024 → EReal) (d : Fin 1024) : EReal :=
  v d * Ideal.rsqrt (Ideal.div (∑ k, v k * v k) (Ideal.ofBits .f32 0x44800000#32) + Ideal.ofBits .f32 0x358637BD#32) * g d

/-- A row times a matrix. -/
def times {K N : ℕ} (v : Fin K → EReal) (w : Fin K → Fin N → EReal) (n : Fin N) : EReal := ∑ k, v k * w k n

/-- The square of the positive part. -/
def act (x : EReal) : EReal := max x 0 * max x 0

/-- The squared-ReLU layer of a row. -/
def mlp (h : Fin 1024 → EReal) (wu : Fin 1024 → Fin 4096 → EReal) (wd : Fin 4096 → Fin 1024 → EReal) : Fin 1024 → EReal :=
  times (fun f => act (times h wu f)) wd

/-- The residual row after the attention: the projected row normed and added. -/
def mid (a x g : Fin 1024 → EReal) (wo : Fin 1024 → Fin 1024 → EReal) (d : Fin 1024) : EReal := x d + rms (times a wo) g d

/-- The residual row after the whole call. -/
def rowOut (a x g₁ g₂ g₃ : Fin 1024 → EReal) (wo : Fin 1024 → Fin 1024 → EReal) (wu : Fin 1024 → Fin 4096 → EReal)
    (wd : Fin 4096 → Fin 1024 → EReal) (d : Fin 1024) : EReal :=
  mid a x g₁ wo d + rms (mlp (rms (mid a x g₁ wo) g₂) wu wd) g₃ d

/-- The residual row of position `s` of sequence `b` after the call on the stacked arrays: gains and layer weights of
    layer `l`, projection of entry `p`. -/
def outAt {P : ℕ} (l : Fin 2) (p : Fin P) (a x : (⟨3, ![2, 8192, 1024]⟩ : Shape).Idx → EReal) (g : (⟨3, ![2, 4, 1024]⟩ : Shape).Idx → EReal)
    (wo : (⟨3, ![P, 1024, 1024]⟩ : Shape).Idx → EReal) (wu : (⟨3, ![2, 1024, 4096]⟩ : Shape).Idx → EReal)
    (wd : (⟨3, ![2, 4096, 1024]⟩ : Shape).Idx → EReal) (b : Fin 2) (s : Fin 8192) (d : Fin 1024) : EReal :=
  rowOut (fun k => a (ix3 b s k)) (fun k => x (ix3 b s k)) (fun k => g (ix3 l 1 k)) (fun k => g (ix3 l 2 k)) (fun k => g (ix3 l 3 k))
    (fun k n => wo (ix3 p k n)) (fun k n => wu (ix3 l k n)) (fun k n => wd (ix3 l k n)) d

/-- The same laid out with the two sequences' rows one after the other. -/
def outArr {P : ℕ} (l : Fin 2) (p : Fin P) (a x : (⟨3, ![2, 8192, 1024]⟩ : Shape).Idx → EReal) (g : (⟨3, ![2, 4, 1024]⟩ : Shape).Idx → EReal)
    (wo : (⟨3, ![P, 1024, 1024]⟩ : Shape).Idx → EReal) (wu : (⟨3, ![2, 1024, 4096]⟩ : Shape).Idx → EReal)
    (wd : (⟨3, ![2, 4096, 1024]⟩ : Shape).Idx → EReal) (i : (⟨2, ![16384, 1024]⟩ : Shape).Idx) : EReal :=
  outAt l p a x g wo wu wd ⟨(i 0).val / 8192, Nat.div_lt_of_lt_mul (i 0).isLt⟩ ⟨(i 0).val % 8192, Nat.mod_lt _ (by decide)⟩ (i 1)

/-- Column `n` of chunk `c` of the hidden axis. -/
def at4 (c : Fin 4) (n : Fin 1024) : Fin 4096 := ⟨c.val * 1024 + n.val, by omega⟩

/-- A sum over the hidden axis, chunk by chunk. -/
theorem sum_chunks (f : Fin 4096 → EReal) :
    ∑ n, f n = ∑ n, f (at4 0 n) + ∑ n, f (at4 1 n) + ∑ n, f (at4 2 n) + ∑ n, f (at4 3 n) := by
  have e : ∑ n, f n = ∑ p : Fin 4 × Fin 1024, f (at4 p.1 p.2) :=
    (Fintype.sum_equiv (finProdFinEquiv (m := 4) (n := 1024)) (fun p => f (at4 p.1 p.2)) f fun p =>
      congrArg f (Fin.ext (by simp only [at4, finProdFinEquiv_apply_val]; omega))).symm
  rw [e, Fintype.sum_prod_type, Fin.sum_univ_four]

end Cert.Row

end
-- ==== Proof.Body2.lean ====
/- What the body of the call after the attention computes, row by row. -/
module

public import proofs.«01_k».proof.Proof.Gen.Kernel2Ideal.Frame
public import proofs.«01_k».proof.Proof.Row
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.ValueLayout
public import Idealize.ShloMosaic.Lib.Pipeline.ValueKit.Tiles

@[expose] public section

noncomputable section

namespace Cert.Kernel2Ideal.Hand

open Cert.Kernel2Ideal Cert.Kernel2Ideal.Gen Cert.Row Idealize.ShloMosaic
open scoped BigOperators

/-- The body's norm of a block of rows. -/
def normK (y : FVec Ideal S512x1024 .f32) (g : FVec Ideal S1x1x1024 .f32) : FVec Ideal S512x1024 .f32 :=
  mulf (mulf y (broadcastTo S512x1024 (rsqrt (addf (divf (shapeCast S512x1
      (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1x1024_S1x1024) broadcasts_S1x1024_S512x1024)

theorem normK_apply (y : FVec Ideal S512x1024 .f32) (g : FVec Ideal S1x1x1024 .f32) (r : Fin 512) (d : Fin 1024) :
    normK y g (ix2 r d) = rms (fun k => y (ix2 r k)) (fun k => g (ix3 0 0 k)) d := by
  unfold normK rms
  pointwise

/-- The body's product of a block of rows with a weight matrix. -/
def timesK (y : FVec Ideal S512x1024 .bf16) (w : FVec Ideal S1x1024x1024 .bf16) : FVec Ideal S512x1024 .f32 :=
  matmul dot_S512x1024_S1024x1024_S512x1024_1_0_0_1_n_n none y (shapeCast S1024x1024 w shapeCasts_S1x1024x1024_S1024x1024)
    (constant S512x1024 .f32 0x00000000#32)

theorem timesK_apply (y : FVec Ideal S512x1024 .bf16) (w : FVec Ideal S1x1024x1024 .bf16) (r : Fin 512) (d : Fin 1024) :
    timesK y w (ix2 r d) = times (fun k => y (ix2 r k)) (fun k n => w (ix3 0 k n)) d := by
  unfold timesK times
  pointwise

/-- The body's squared-ReLU layer of one chunk of the hidden axis. -/
def chunkK (h : FVec Ideal S512x1024 .bf16) (u d : FVec Ideal S1x1024x1024 .bf16) : FVec Ideal S512x1024 .f32 :=
  timesK (truncf .bf16 (mulf (maximumf (timesK h u) (broadcast S512x1024 (Scalar.ofBits .f32 0x00000000#32)))
    (maximumf (timesK h u) (broadcast S512x1024 (Scalar.ofBits .f32 0x00000000#32)))) bitsLt_bf16_f32) d

theorem chunkK_apply (h : FVec Ideal S512x1024 .bf16) (u d : FVec Ideal S1x1024x1024 .bf16) (r : Fin 512) (n : Fin 1024) :
    chunkK h u d (ix2 r n) = ∑ f, act (times (fun k => h (ix2 r k)) (fun k m => u (ix3 0 k m)) f) * d (ix3 0 f n) := by
  unfold chunkK
  rw [timesK_apply]
  unfold times
  refine Finset.sum_congr rfl fun f _ => congrArg (· * d (ix3 0 f n)) ?_
  have e := timesK_apply h u r f
  unfold times at e
  unfold act
  rw [← e]
  pointwise

/-- The first residual sum of the body. -/
theorem pay2_eq (a : FVec Ideal S512x1024 .bf16) (w : FVec Ideal S1x1024x1024 .bf16) (x : FVec Ideal S512x1024 .f32)
    (g : FVec Ideal S1x1x1024 .f32) :
    k0_pay2 (F := Ideal) a w x g = addf x (normK (timesK a w) g) := by
  unfold k0_pay2 normK timesK
  simp only [shapeCast_self]

theorem pay3_eq (a : FVec Ideal S512x1024 .bf16) (w : FVec Ideal S1x1024x1024 .bf16) (x : FVec Ideal S512x1024 .f32)
    (g g' : FVec Ideal S1x1x1024 .f32) :
    k0_pay3 (F := Ideal) a w x g g' = truncf .bf16 (normK (k0_pay2 a w x g) g') bitsLt_bf16_f32 := rfl

theorem pay5_eq (h : FVec Ideal S512x1024 .bf16) (z : FVec Ideal S512x1024 .f32) (u₀ d₀ u₁ d₁ u₂ d₂ : FVec Ideal S1x1024x1024 .bf16) :
    k0_pay5 (F := Ideal) h z u₀ d₀ u₁ d₁ u₂ d₂ = addf (addf (addf z (chunkK h u₀ d₀)) (chunkK h u₁ d₁)) (chunkK h u₂ d₂) := rfl

theorem pay1_eq (y : FVec Ideal S512x1024 .f32) (h : FVec Ideal S512x1024 .bf16) (s : FVec Ideal S512x1024 .f32)
    (u d : FVec Ideal S1x1024x1024 .bf16) (g : FVec Ideal S1x1x1024 .f32) :
    k0_pay1 (F := Ideal) y h s u d g = addf y (normK (addf s (chunkK h u d)) g) := by
  unfold k0_pay1 normK chunkK timesK
  simp only [shapeCast_self]

/-- A gain row read from its block: row `j` of the four. -/
theorem gain_apply (x : Vec Ideal S1x4x1024 .f32) (j : Fin 4) (inb) (k : Fin 1024) :
    View.ld x (Rect.unit (s := S1x4x1024) ![0, j.val, 0] S1x1x1024.size inb) (ix3 0 0 k) = x (ix3 0 j k) :=
  View.ld_unit_apply_of x _ _ _ _ _ (by intro a; fin_cases a <;> simp [ix3])

/-- A chunk of the up matrix: columns `1024 * j` on. -/
theorem up_apply (x : Vec Ideal S1x1024x4096 .bf16) (j : Fin 4) (inb) (k n : Fin 1024) :
    View.ld x (Rect.unit (s := S1x1024x4096) ![0, 0, j.val * 1024] S1x1024x1024.size inb) (ix3 0 k n) = x (ix3 0 k (at4 j n)) :=
  View.ld_unit_apply_of x _ _ _ _ _ (by intro a; fin_cases a <;> simp [ix3, at4])

/-- A chunk of the down matrix: rows `1024 * j` on. -/
theorem down_apply (x : Vec Ideal S1x4096x1024 .bf16) (j : Fin 4) (inb) (k n : Fin 1024) :
    View.ld x (Rect.unit (s := S1x4096x1024) ![0, j.val * 1024, 0] S1x1024x1024.size inb) (ix3 0 k n) = x (ix3 0 (at4 j k) n) :=
  View.ld_unit_apply_of x _ _ _ _ _ (by intro a; fin_cases a <;> simp [ix3, at4])

/-- The hidden axis' chunk `j` of the layer, of a block whose row `r` is `h`. -/
theorem chunk_at (y : FVec Ideal S512x1024 .bf16) (x4 : Vec Ideal S1x1024x4096 .bf16) (x5 : Vec Ideal S1x4096x1024 .bf16)
    (j : Fin 4) (inb inb') (r : Fin 512) (d : Fin 1024) (h : Fin 1024 → EReal) (e : ∀ k, y (ix2 r k) = h k) :
    chunkK y (View.ld x4 (Rect.unit (s := S1x1024x4096) ![0, 0, j.val * 1024] S1x1024x1024.size inb))
      (View.ld x5 (Rect.unit (s := S1x4096x1024) ![0, j.val * 1024, 0] S1x1024x1024.size inb')) (ix2 r d)
    = ∑ f, act (times h (fun k n => x4 (ix3 0 k n)) (at4 j f)) * x5 (ix3 0 (at4 j f) d) := by
  rw [chunkK_apply]
  refine Finset.sum_congr rfl fun f _ => ?_
  rw [down_apply, funext e]
  refine congrArg (fun z => act z * _) ?_
  unfold times
  exact Finset.sum_congr rfl fun k _ => congrArg (h k * ·) (up_apply x4 j inb k f)

section Out

variable (x0 : Vec Ideal S512x1024 .bf16) (x1 : Vec Ideal S512x1024 .f32) (x2 : Vec Ideal S1x4x1024 .f32)
  (x3 : Vec Ideal S1x1024x1024 .bf16) (x4 : Vec Ideal S1x1024x4096 .bf16) (x5 : Vec Ideal S1x4096x1024 .bf16)

/-- The residual row the body carries, of row `r` of its blocks. -/
theorem pay2_apply (r : Fin 512) (d : Fin 1024) :
    k0_pay2 (F := Ideal) (View.ld x0 r0_0) (View.ld x3 r0_1) (View.ld x1 r0_0) (View.ld x2 r0_2) (ix2 r d)
    = mid (fun k => x0 (ix2 r k)) (fun k => x1 (ix2 r k)) (fun k => x2 (ix3 0 1 k)) (fun k n => x3 (ix3 0 k n)) d := by
  rw [pay2_eq, View.ld_unit_zero (by funext a; fin_cases a <;> rfl) _ x0, View.ld_unit_zero (by funext a; fin_cases a <;> rfl) _ x1,
    View.ld_unit_zero (by funext a; fin_cases a <;> rfl) _ x3]
  show x1 (ix2 r d) + normK _ _ (ix2 r d) = _
  rw [normK_apply]
  simp only [timesK_apply]
  unfold mid
  have e : ∀ k, View.ld x2 r0_2 (ix3 0 0 k) = x2 (ix3 0 1 k) := fun k => gain_apply x2 1 _ k
  simp only [e]

/-- The normed row the layer reads. -/
theorem pay6_apply (r : Fin 512) (d : Fin 1024) :
    k0_pay6 (F := Ideal) x0 x1 x2 x3 x4 x5 (ix2 r d)
    = rms (mid (fun k => x0 (ix2 r k)) (fun k => x1 (ix2 r k)) (fun k => x2 (ix3 0 1 k)) (fun k n => x3 (ix3 0 k n)))
        (fun k => x2 (ix3 0 2 k)) d := by
  unfold k0_pay6
  rw [pay3_eq]
  show normK _ _ (ix2 r d) = _
  rw [normK_apply]
  have e : ∀ k, View.ld x2 r0_3 (ix3 0 0 k) = x2 (ix3 0 2 k) := fun k => gain_apply x2 2 _ k
  simp only [e, pay2_apply]

/-- What the body leaves in its output block, row by row. -/
theorem out_apply (r : Fin 512) (d : Fin 1024) :
    out0_6 (F := Ideal) x0 x1 x2 x3 x4 x5 (ix2 r d)
    = rowOut (fun k => x0 (ix2 r k)) (fun k => x1 (ix2 r k)) (fun k => x2 (ix3 0 1 k)) (fun k => x2 (ix3 0 2 k))
        (fun k => x2 (ix3 0 3 k)) (fun k n => x3 (ix3 0 k n)) (fun k n => x4 (ix3 0 k n)) (fun k n => x5 (ix3 0 k n)) d := by
  unfold out0_6
  rw [View.canon_unit_zero (by funext a; fin_cases a <;> rfl), pay1_eq, pay5_eq]
  show k0_pay2 _ _ _ _ (ix2 r d) + normK _ _ (ix2 r d) = _
  rw [normK_apply, pay2_apply]
  unfold rowOut
  have e : ∀ k, View.ld x2 r0_12 (ix3 0 0 k) = x2 (ix3 0 3 k) := fun k => gain_apply x2 3 _ k
  simp only [e]
  refine congrArg (fun v => _ + rms v _ d) (funext fun k => ?_)
  unfold mlp
  conv_rhs => unfold times
  rw [sum_chunks]
  have h := pay6_apply x0 x1 x2 x3 x4 x5 r
  show (k0_pay4 (F := Ideal) (ix2 r k) + chunkK _ _ _ (ix2 r k)) + chunkK _ _ _ (ix2 r k) + chunkK _ _ _ (ix2 r k)
    + chunkK _ _ _ (ix2 r k) = _
  have z : k0_pay4 (F := Ideal) (ix2 r k) = 0 := by unfold k0_pay4; pointwise
  rw [z, zero_add]
  exact congr (congrArg HAdd.hAdd (congr (congrArg HAdd.hAdd (congr (congrArg HAdd.hAdd
    (chunk_at _ x4 x5 0 _ _ r k _ h)) (chunk_at _ x4 x5 1 _ _ r k _ h))) (chunk_at _ x4 x5 2 _ _ r k _ h)))
    (chunk_at _ x4 x5 3 _ _ r k _ h)

end Out

end Cert.Kernel2Ideal.Hand

end
-- ==== Proof.Blocks2.lean ====
/- The array the call after the attention (second layer) leaves, from the blocks of its arguments. -/
module

public import proofs.«01_k».proof.Proof.Body2
public import Idealize.ShloMosaic.Lib.Pipeline.ValueKit
public import Idealize.ShloMosaic.Lib.Claim
public import Idealize.ShloMosaic.Lib.Pointwise

@[expose] public section

noncomputable section

namespace Cert.Kernel2Ideal.Hand

open Cert.Kernel2Ideal Cert.Kernel2Ideal.Gen Cert.Row Idealize.ShloMosaic Idealize.ShloMosaic.TcCoe Idealize.SL.Sem
open Idealize.ShloMosaic.Pipeline (Dat)

variable (m : (ℓ : Loc nD τ sig) → Buf (Elt Ideal) ℓ)

/-- Which block each window is at. -/
theorem index_at : ∀ t : Fin cfg0.N, win0_0.index t = ![t.val, 0] ∧ win0_1.index t = ![t.val, 0] ∧ win0_2.index t = ![1, 0, 0]
    ∧ win0_3.index t = ![0, 0, 0] ∧ win0_4.index t = ![1, 0, 0] ∧ win0_5.index t = ![1, 0, 0] ∧ win0_6.index t = ![t.val, 0] :=
  (by decide +kernel : ∀ t : Fin grid0.N, _)

/-- Row `r` of block `t` is row `512 t + r` of the array. -/
def row (t : Fin cfg0.N) (r : Fin 512) : Fin 16384 := ⟨t.val * 512 + r.val, by have : t.val < 32 := t.isLt; omega⟩

theorem blk0_at (c : Dev nD) (t : Fin cfg0.N) (r : Fin 512) (k : Fin 1024) :
    iblk m c 0 t (ix2 r k) = m ((c : Thread nD τ).loc main_arg0) (ix3 ⟨(row t r).val / 8192, by omega⟩ ⟨(row t r).val % 8192, by omega⟩ k) := by
  unfold row
  blk_ext! [iblk, V, index_at t]

theorem blk1_at (c : Dev nD) (t : Fin cfg0.N) (r : Fin 512) (k : Fin 1024) :
    iblk m c 1 t (ix2 r k) = m ((c : Thread nD τ).loc main_arg1) (ix3 ⟨(row t r).val / 8192, by omega⟩ ⟨(row t r).val % 8192, by omega⟩ k) := by
  unfold row
  blk_ext! [iblk, V, index_at t]

theorem blk2_at (c : Dev nD) (t : Fin cfg0.N) (j : Fin 4) (k : Fin 1024) :
    iblk m c 2 t (ix3 0 j k) = m ((c : Thread nD τ).loc main_arg2) (ix3 1 j k) := by
  blk_ext! [iblk, V, index_at t]

theorem blk3_at (c : Dev nD) (t : Fin cfg0.N) (k n : Fin 1024) :
    iblk m c 3 t (ix3 0 k n) = m ((c : Thread nD τ).loc main_arg3) (ix3 0 k n) := by
  blk_ext! [iblk, V, index_at t]

theorem blk4_at (c : Dev nD) (t : Fin cfg0.N) (k : Fin 1024) (n : Fin 4096) :
    iblk m c 4 t (ix3 0 k n) = m ((c : Thread nD τ).loc main_arg4) (ix3 1 k n) := by
  blk_ext! [iblk, V, index_at t]

theorem blk5_at (c : Dev nD) (t : Fin cfg0.N) (k : Fin 4096) (n : Fin 1024) :
    iblk m c 5 t (ix3 0 k n) = m ((c : Thread nD τ).loc main_arg5) (ix3 1 k n) := by
  blk_ext! [iblk, V, index_at t]

/-- What point `t` leaves in its output block, of the arguments. -/
theorem out_at (c : Dev nD) (t : Fin cfg0.N) (r : Fin 512) (d : Fin 1024) :
    out0_6 (iblk m c 0 t) (iblk m c 1 t) (iblk m c 2 t) (iblk m c 3 t) (iblk m c 4 t) (iblk m c 5 t) (ix2 r d)
    = outAt 1 (0 : Fin 1) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨(row t r).val / 8192, by omega⟩ ⟨(row t r).val % 8192, by omega⟩ d := by
  refine (out_apply _ _ _ _ _ _ r d).trans ?_
  unfold outAt
  simp only [blk0_at, blk1_at, blk2_at, blk3_at, blk4_at, blk5_at]

/-- Where point `t` writes row `r` of its block. -/
theorem place (t : Fin cfg0.N) (r : Fin 512) (d : Fin 1024) : ((win0_6.blk t).view.emb (ix2 r d)) = ix2 (row t r) d := by
  unfold row
  blk_ext [index_at t]

/-- The array after the run. -/
theorem final (c : Dev nD) : (dats m 0 c).arrAt 6 cfg0.N
    = outArr 1 (0 : Fin 1) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  generalize hG : outArr 1 (0 : Fin 1) _ _ _ _ _ _ = G
  refine (dats m 0 c).arrAt_eq_of_covers 6 G (by decide +kernel) fun t hf y => ?_
  blk_simp
  rw [after0_6]
  obtain ⟨r, d, rfl⟩ : ∃ (r : Fin 512) (d : Fin 1024), y = ix2 r d := ⟨y 0, y 1, (ix2_eta y).symm⟩
  refine (out_at m c t r d).trans ?_
  rw [place, ← hG]
  rfl

end Cert.Kernel2Ideal.Hand

end
-- ==== Proof.Host2.lean ====
/- What the plain program of the call after an attention returns, row by row, and that of the second layer. -/
module

public import proofs.«01_k».proof.Proof.Gen.Reference2Ideal.Run
public import proofs.«01_k».proof.Proof.Row
public import Idealize.ShloMosaic.Lib.Pointwise

@[expose] public section

noncomputable section

namespace Cert.Reference2Ideal.Hand

open Cert.Reference2Ideal Cert.Reference2Ideal.Gen Cert.Reference2Ideal.Value Cert.Row Idealize.ShloMosaic Idealize.ShloMosaic.TcCoe
open scoped BigOperators

/-- The plain norm of all rows. -/
def normR (y : FVec Ideal S2x8192x1024 .f32) (g : FVec Ideal S1024 .f32) : FVec Ideal S2x8192x1024 .f32 :=
  mulf (mulf y (broadcastInDim S2x8192x1024 ![0, 1, 2] bcast_S2x8192x1_S2x8192x1024_0_1_2 (Host.rsqrt (addf (Host.divf
      (broadcastInDim S2x8192x1 ![0, 1] bcast_S2x8192_S2x8192x1_0_1
        (Host.reduceAdd (mulf y y) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem normR_apply (y : FVec Ideal S2x8192x1024 .f32) (g : FVec Ideal S1024 .f32) (b : Fin 2) (s : Fin 8192) (d : Fin 1024) :
    normR y g (ix3 b s d) = rms (fun k => y (ix3 b s k)) (fun k => g (ix1 k)) d := by
  unfold normR rms
  pointwise

/-- Layer `l` is a slice of the gains, of the up matrices and of the down matrices. -/
structure Layer (l : Fin 2) : Prop where
  gain : S2x4x1024.Slices ![l.val, 0, 0] S1x4x1024
  up : S2x1024x4096.Slices ![l.val, 0, 0] S1x1024x4096
  down : S2x4096x1024.Slices ![l.val, 0, 0] S1x4096x1024

variable {l : Fin 2} (L : Layer l)

/-- Row `j` of a layer's gains. -/
def gainR (g : FVec Ideal S2x4x1024 .f32) (j : Fin 4) (h : S4x1024.Slices ![j.val, 0] S1x1024) : FVec Ideal S1024 .f32 :=
  shapeCast S1024 (extractStridedSlice S1x1024 ![j.val, 0] (shapeCast S4x1024 (extractStridedSlice S1x4x1024 ![l.val, 0, 0] g
    L.gain) shapeCasts_S1x4x1024_S4x1024) h) shapeCasts_S1x1024_S1024

theorem gainR_apply (g : FVec Ideal S2x4x1024 .f32) (j : Fin 4) (h) (k : Fin 1024) : gainR L g j h (ix1 k) = g (ix3 l j k) := by
  unfold gainR
  fin_cases l <;> fin_cases j <;> pointwise

/-- The plain product of all rows with the projection. -/
def projR (y : FVec Ideal S2x8192x1024 .f32) (w : FVec Ideal S1x1024x1024 .f32) : FVec Ideal S2x8192x1024 .f32 :=
  Host.dotGeneral dot_S2x8192x1024_S1024x1024_S2x8192x1024_2_0_01_1_n_n none y (shapeCast S1024x1024 w shapeCasts_S1x1024x1024_S1024x1024)

theorem projR_apply (y : FVec Ideal S2x8192x1024 .f32) (w : FVec Ideal S1x1024x1024 .f32) (b : Fin 2) (s : Fin 8192) (d : Fin 1024) :
    projR y w (ix3 b s d) = times (fun k => y (ix3 b s k)) (fun k n => w (ix3 0 k n)) d := by
  unfold projR times
  pointwise

/-- The plain product of all rows with the up matrix. -/
def upR (y : FVec Ideal S2x8192x1024 .f32) (w : FVec Ideal S2x1024x4096 .f32) : FVec Ideal S2x8192x4096 .f32 :=
  Host.dotGeneral dot_S2x8192x1024_S1024x4096_S2x8192x4096_2_0_01_1_n_n none y
    (shapeCast S1024x4096 (extractStridedSlice S1x1024x4096 ![l.val, 0, 0] w L.up) shapeCasts_S1x1024x4096_S1024x4096)

theorem upR_apply (y : FVec Ideal S2x8192x1024 .f32) (w : FVec Ideal S2x1024x4096 .f32) (b : Fin 2) (s : Fin 8192) (f : Fin 4096) :
    upR L y w (ix3 b s f) = times (fun k => y (ix3 b s k)) (fun k n => w (ix3 l k n)) f := by
  unfold upR times
  fin_cases l <;> pointwise

/-- The plain squared-ReLU layer of all rows. -/
def mlpR (y : FVec Ideal S2x8192x1024 .f32) (u : FVec Ideal S2x1024x4096 .f32) (d : FVec Ideal S2x4096x1024 .f32) : FVec Ideal S2x8192x1024 .f32 :=
  Host.dotGeneral dot_S2x8192x4096_S4096x1024_S2x8192x1024_2_0_01_1_n_n none
    (mulf (maximumf (upR L y u) (broadcastInDim S2x8192x4096 ![] bcast_S_S2x8192x4096 (constant S_ .f32 0x00000000#32)))
      (maximumf (upR L y u) (broadcastInDim S2x8192x4096 ![] bcast_S_S2x8192x4096 (constant S_ .f32 0x00000000#32))))
    (shapeCast S4096x1024 (extractStridedSlice S1x4096x1024 ![l.val, 0, 0] d L.down) shapeCasts_S1x4096x1024_S4096x1024)

theorem mlpR_apply (y : FVec Ideal S2x8192x1024 .f32) (u : FVec Ideal S2x1024x4096 .f32) (d : FVec Ideal S2x4096x1024 .f32)
    (b : Fin 2) (s : Fin 8192) (n : Fin 1024) :
    mlpR L y u d (ix3 b s n) = mlp (fun k => y (ix3 b s k)) (fun k n => u (ix3 l k n)) (fun k n => d (ix3 l k n)) n := by
  have e : mlpR L y u d (ix3 b s n) = ∑ f, act (upR L y u (ix3 b s f)) * d (ix3 l f n) := by
    unfold mlpR act
    generalize upR L y u = z
    fin_cases l <;> pointwise
  rw [e]
  simp only [upR_apply]
  rfl

/-- The plain residual sum after the projection. -/
def midR (a x : FVec Ideal S2x8192x1024 .f32) (g : FVec Ideal S2x4x1024 .f32) (w : FVec Ideal S1x1024x1024 .f32) : FVec Ideal S2x8192x1024 .f32 :=
  addf x (normR (projR a w) (gainR L g 1 slices_S4x1024_S1x1024_1_0))

theorem midR_apply (a x : FVec Ideal S2x8192x1024 .f32) (g : FVec Ideal S2x4x1024 .f32) (w : FVec Ideal S1x1024x1024 .f32)
    (b : Fin 2) (s : Fin 8192) (d : Fin 1024) :
    midR L a x g w (ix3 b s d) = mid (fun k => a (ix3 b s k)) (fun k => x (ix3 b s k)) (fun k => g (ix3 l 1 k)) (fun k n => w (ix3 0 k n)) d := by
  show x (ix3 b s d) + normR _ _ (ix3 b s d) = _
  rw [normR_apply]
  simp only [projR_apply, gainR_apply]
  rfl

/-- The whole plain program before its last reshape. -/
def outR (a x : FVec Ideal S2x8192x1024 .f32) (g : FVec Ideal S2x4x1024 .f32) (w : FVec Ideal S1x1024x1024 .f32)
    (u : FVec Ideal S2x1024x4096 .f32) (d : FVec Ideal S2x4096x1024 .f32) : FVec Ideal S2x8192x1024 .f32 :=
  addf (midR L a x g w) (normR (mlpR L (normR (midR L a x g w) (gainR L g 2 slices_S4x1024_S1x1024_2_0)) u d) (gainR L g 3 slices_S4x1024_S1x1024_3_0))

theorem outR_apply (a x : FVec Ideal S2x8192x1024 .f32) (g : FVec Ideal S2x4x1024 .f32) (w : FVec Ideal S1x1024x1024 .f32)
    (u : FVec Ideal S2x1024x4096 .f32) (d : FVec Ideal S2x4096x1024 .f32) (b : Fin 2) (s : Fin 8192) (n : Fin 1024) :
    outR L a x g w u d (ix3 b s n) = outAt l (0 : Fin 1) a x g w u d b s n := by
  show midR L a x g w (ix3 b s n) + normR _ _ (ix3 b s n) = _
  rw [normR_apply]
  simp only [mlpR_apply, normR_apply, midR_apply, gainR_apply]
  rfl

/-- The rows laid out as one array. -/
theorem flatR (a x : FVec Ideal S2x8192x1024 .f32) (g : FVec Ideal S2x4x1024 .f32) (w : FVec Ideal S1x1024x1024 .f32)
    (u : FVec Ideal S2x1024x4096 .f32) (d : FVec Ideal S2x4096x1024 .f32) :
    shapeCast S16384x1024 (outR L a x g w u d) shapeCasts_S2x8192x1024_S16384x1024 = outArr l (0 : Fin 1) a x g w u d := by
  funext i
  obtain ⟨r, n, rfl⟩ : ∃ (r : Fin 16384) (n : Fin 1024), i = ix2 r n := ⟨i 0, i 1, (ix2_eta i).symm⟩
  refine (shapeCast_apply _ _ _ (ix3 ⟨r.val / 8192, by omega⟩ ⟨r.val % 8192, by omega⟩ n) ?_).trans (outR_apply L _ _ _ _ _ _ _ _ _)
  rw [rowMajor_val3 _ (8192 * 1024) 1024 rfl rfl, rowMajor_val2 _ 1024 rfl]
  show r.val / 8192 * (8192 * 1024) + r.val % 8192 * 1024 + n.val = r.val * 1024 + n.val
  omega

/-- The second layer. -/
theorem second : Layer 1 :=
  ⟨slices_S2x4x1024_S1x4x1024_1_0_0, slices_S2x1024x4096_S1x1024x4096_1_0_0, slices_S2x4096x1024_S1x4096x1024_1_0_0⟩

variable (m : (ℓ : Loc nD τ sig) → Buf (Elt Ideal) ℓ)

/-- What the second layer's plain program returns. -/
theorem final (c : Dev nD) : res_main_v59 m c
    = outArr 1 (0 : Fin 1) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [← flatR second]
  unfold res_main_v59 outR mlpR upR midR normR projR gainR
  rfl

end Cert.Reference2Ideal.Hand

end
-- ==== Proof.Pair2.lean ====
/- The claims of the call after the attention in the second layer. -/
module

public import proofs.«01_k».proof.Defs
public import proofs.«01_k».proof.Proof.Gen.Kernel2.Frame
public import proofs.«01_k».proof.Proof.Gen.Kernel2Ideal.Value
public import proofs.«01_k».proof.Proof.Blocks2
public import proofs.«01_k».proof.Proof.Host2
public import Idealize.ShloMosaic.Lib.Quiescent

@[expose] public section

noncomputable section

namespace Cert.Proof

open Idealize.ShloMosaic Idealize.ShloMosaic.TcCoe Idealize.SL.Sem

/-- The plain program ends, its arguments as launched; it has no semaphore. -/
theorem quiescent_reference2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Both programs return the residual rows `outArr` names. -/
theorem algebraic2 : Cert.algebraic_Kernel2Ideal_Reference2Ideal (hKernel2Ideal := Cert.Kernel2Ideal.Gen.facts)
    (hReference2Ideal := Cert.Reference2Ideal.Gen.facts) := fun m g m' g' _ e =>
  ⟨fun c => (Cert.Kernel2Ideal.Gen.dats m 0 c).arrAt 6 Cert.Kernel2Ideal.cfg0.N, Cert.Kernel2Ideal.Value.run_blocks m g,
    (θ_run Cert.Reference2Ideal.defs _ _).mono
      (fun _ h c => ⟨by
        obtain ⟨e0, e1, e2, e3, e4, e5⟩ := e c
        rw [(h c).1, Cert.Reference2Ideal.Hand.final, e0, e1, e2, e3, e4, e5]
        exact (Cert.Kernel2Ideal.Hand.final m c).symm, (h c).2⟩)
      (Cert.Reference2Ideal.Value.run (F := Ideal) m' g')⟩

end Cert.Proof

end
-- ==== Proof.Blocks3.lean ====
/- The array the call after the attention (first layer) leaves, from the blocks of its arguments. -/
module

public import proofs.«01_k».proof.Proof.Gen.Kernel3Ideal.Frame
public import proofs.«01_k».proof.Proof.Blocks2
public import Idealize.ShloMosaic.Lib.Pipeline.ValueKit
public import Idealize.ShloMosaic.Lib.Claim
public import Idealize.ShloMosaic.Lib.Pointwise

@[expose] public section

noncomputable section

namespace Cert.Kernel3Ideal.Hand

open Cert.Kernel3Ideal Cert.Kernel3Ideal.Gen Cert.Row Idealize.ShloMosaic Idealize.ShloMosaic.TcCoe Idealize.SL.Sem
open Idealize.ShloMosaic.Pipeline (Dat)
open Cert.Kernel2Ideal.Hand (row)

variable (m : (ℓ : Loc nD τ sig) → Buf (Elt Ideal) ℓ)

/-- Which block each window is at. -/
theorem index_at : ∀ t : Fin cfg0.N, win0_0.index t = ![t.val, 0] ∧ win0_1.index t = ![t.val, 0] ∧ win0_2.index t = ![0, 0, 0]
    ∧ win0_3.index t = ![0, 0, 0] ∧ win0_4.index t = ![0, 0, 0] ∧ win0_5.index t = ![0, 0, 0] ∧ win0_6.index t = ![t.val, 0] :=
  (by decide +kernel : ∀ t : Fin grid0.N, _)

theorem blk0_at (c : Dev nD) (t : Fin cfg0.N) (r : Fin 512) (k : Fin 1024) :
    iblk m c 0 t (ix2 r k) = m ((c : Thread nD τ).loc main_arg0) (ix3 ⟨(row t r).val / 8192, by omega⟩ ⟨(row t r).val % 8192, by omega⟩ k) :=
  Cert.Kernel2Ideal.Hand.blk0_at m c t r k

theorem blk1_at (c : Dev nD) (t : Fin cfg0.N) (r : Fin 512) (k : Fin 1024) :
    iblk m c 1 t (ix2 r k) = m ((c : Thread nD τ).loc main_arg1) (ix3 ⟨(row t r).val / 8192, by omega⟩ ⟨(row t r).val % 8192, by omega⟩ k) :=
  Cert.Kernel2Ideal.Hand.blk1_at m c t r k

theorem blk2_at (c : Dev nD) (t : Fin cfg0.N) (j : Fin 4) (k : Fin 1024) :
    iblk m c 2 t (ix3 0 j k) = m ((c : Thread nD τ).loc main_arg2) (ix3 0 j k) := by
  blk_ext! [iblk, V, index_at t]

theorem blk3_at (c : Dev nD) (t : Fin cfg0.N) (k n : Fin 1024) :
    iblk m c 3 t (ix3 0 k n) = m ((c : Thread nD τ).loc main_arg3) (ix3 0 k n) :=
  Cert.Kernel2Ideal.Hand.blk3_at m c t k n

theorem blk4_at (c : Dev nD) (t : Fin cfg0.N) (k : Fin 1024) (n : Fin 4096) :
    iblk m c 4 t (ix3 0 k n) = m ((c : Thread nD τ).loc main_arg4) (ix3 0 k n) := by
  blk_ext! [iblk, V, index_at t]

theorem blk5_at (c : Dev nD) (t : Fin cfg0.N) (k : Fin 4096) (n : Fin 1024) :
    iblk m c 5 t (ix3 0 k n) = m ((c : Thread nD τ).loc main_arg5) (ix3 0 k n) := by
  blk_ext! [iblk, V, index_at t]

/-- What point `t` leaves in its output block, of the arguments. -/
theorem out_at (c : Dev nD) (t : Fin cfg0.N) (r : Fin 512) (d : Fin 1024) :
    out0_6 (iblk m c 0 t) (iblk m c 1 t) (iblk m c 2 t) (iblk m c 3 t) (iblk m c 4 t) (iblk m c 5 t) (ix2 r d)
    = outAt 0 (0 : Fin 1) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨(row t r).val / 8192, by omega⟩ ⟨(row t r).val % 8192, by omega⟩ d := by
  refine (Cert.Kernel2Ideal.Hand.out_apply _ _ _ _ _ _ r d).trans ?_
  unfold outAt
  simp only [blk0_at, blk1_at, blk2_at, blk3_at, blk4_at, blk5_at]

/-- Where point `t` writes row `r` of its block. -/
theorem place (t : Fin cfg0.N) (r : Fin 512) (d : Fin 1024) : ((win0_6.blk t).view.emb (ix2 r d)) = ix2 (row t r) d :=
  Cert.Kernel2Ideal.Hand.place t r d

/-- The array after the run. -/
theorem final (c : Dev nD) : (dats m 0 c).arrAt 6 cfg0.N
    = outArr 0 (0 : Fin 1) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  generalize hG : outArr 0 (0 : Fin 1) _ _ _ _ _ _ = G
  refine (dats m 0 c).arrAt_eq_of_covers 6 G (by decide +kernel) fun t hf y => ?_
  blk_simp
  rw [after0_6]
  obtain ⟨r, d, rfl⟩ : ∃ (r : Fin 512) (d : Fin 1024), y = ix2 r d := ⟨y 0, y 1, (ix2_eta y).symm⟩
  refine (out_at m c t r d).trans ?_
  rw [place, ← hG]
  rfl

end Cert.Kernel3Ideal.Hand

end
-- ==== Proof.Host3.lean ====
/- What the plain program of the call after the first layer's attention returns: the same stages at the first layer. -/
module

public import proofs.«01_k».proof.Proof.Gen.Reference3Ideal.Run
public import proofs.«01_k».proof.Proof.Host2

@[expose] public section

noncomputable section

namespace Cert.Reference3Ideal.Hand

open Cert.Reference3Ideal Cert.Reference3Ideal.Gen Cert.Reference3Ideal.Value Cert.Row Idealize.ShloMosaic Idealize.ShloMosaic.TcCoe
open Cert.Reference2Ideal.Hand (Layer flatR outR mlpR upR midR normR projR gainR)

/-- The first layer. -/
theorem first : Layer 0 :=
  ⟨slices_S2x4x1024_S1x4x1024_0_0_0, slices_S2x1024x4096_S1x1024x4096_0_0_0, slices_S2x4096x1024_S1x4096x1024_0_0_0⟩

variable (m : (ℓ : Loc nD τ sig) → Buf (Elt Ideal) ℓ)

/-- What the first layer's plain program returns. -/
theorem final (c : Dev nD) : res_main_v59 m c
    = outArr 0 (0 : Fin 1) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine Eq.trans ?_ (flatR first _ _ _ _ _ _)
  unfold res_main_v59 outR mlpR upR midR normR projR gainR
  rfl

end Cert.Reference3Ideal.Hand

end
-- ==== Proof.Pair3.lean ====
/- The claims of the call after the attention in the first layer. -/
module

public import proofs.«01_k».proof.Defs
public import proofs.«01_k».proof.Proof.Gen.Kernel3.Frame
public import proofs.«01_k».proof.Proof.Gen.Kernel3Ideal.Value
public import proofs.«01_k».proof.Proof.Blocks3
public import proofs.«01_k».proof.Proof.Host3
public import Idealize.ShloMosaic.Lib.Quiescent

@[expose] public section

noncomputable section

namespace Cert.Proof

open Idealize.ShloMosaic Idealize.ShloMosaic.TcCoe Idealize.SL.Sem

/-- The plain program ends, its arguments as launched; it has no semaphore. -/
theorem quiescent_reference3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Both programs return the residual rows `outArr` names. -/
theorem algebraic3 : Cert.algebraic_Kernel3Ideal_Reference3Ideal (hKernel3Ideal := Cert.Kernel3Ideal.Gen.facts)
    (hReference3Ideal := Cert.Reference3Ideal.Gen.facts) := fun m g m' g' _ e =>
  ⟨fun c => (Cert.Kernel3Ideal.Gen.dats m 0 c).arrAt 6 Cert.Kernel3Ideal.cfg0.N, Cert.Kernel3Ideal.Value.run_blocks m g,
    (θ_run Cert.Reference3Ideal.defs _ _).mono
      (fun _ h c => ⟨by
        obtain ⟨e0, e1, e2, e3, e4, e5⟩ := e c
        rw [(h c).1, Cert.Reference3Ideal.Hand.final, e0, e1, e2, e3, e4, e5]
        exact (Cert.Kernel3Ideal.Hand.final m c).symm, (h c).2⟩)
      (Cert.Reference3Ideal.Value.run (F := Ideal) m' g')⟩

end Cert.Proof

end
-- ==== Proof.Rope.lean ====
/- The input projections of the second layer, entry by entry, over the extended reals. -/
module

public import proofs.«01_k».proof.Proof.Row

@[expose] public section

noncomputable section

namespace Cert.Row

open Idealize.ShloMosaic
open scoped BigOperators

/-- One head with its first sixteen entries rotated, the halves of eight paired. -/
def rope (z : Fin 64 → EReal) (cs sn : Fin 8 → EReal) (j : Fin 64) : EReal :=
  if h : j.val < 8 then z j * cs ⟨j.val, h⟩ - z ⟨j.val + 8, by omega⟩ * sn ⟨j.val, h⟩
  else if h' : j.val < 16 then z j * cs ⟨j.val - 8, by omega⟩ + z ⟨j.val - 8, by omega⟩ * sn ⟨j.val - 8, by omega⟩
  else z j

section Arrays

variable (x : (⟨3, ![2, 8192, 1024]⟩ : Shape).Idx → EReal) (g : (⟨3, ![2, 4, 1024]⟩ : Shape).Idx → EReal)
  (w : (⟨3, ![1, 1024, 2120]⟩ : Shape).Idx → EReal) (cs sn : (⟨3, ![2, 8, 8192]⟩ : Shape).Idx → EReal)

/-- Column `c` of the projection of position `s` of sequence `b`, normed with the second layer's first gains. -/
def lin (b : Fin 2) (s : Fin 8192) (c : Fin 2120) : EReal :=
  times (rms (fun k => x (ix3 b s k)) (fun k => g (ix3 1 0 k))) (fun k n => w (ix3 0 k n)) c

/-- Entry `j` of the rotated head whose columns begin at `o`. -/
def head (o : ℕ) (ho : o + 64 ≤ 2120) (b : Fin 2) (s : Fin 8192) (j : Fin 64) : EReal :=
  rope (fun j => lin x g w b s ⟨o + j.val, by omega⟩) (fun p => cs (ix3 b p s)) (fun p => sn (ix3 b p s)) j

/-- The queries, scaled for the base-two exponential, positions last. -/
def qArr (i : (⟨3, ![2, 1024, 8192]⟩ : Shape).Idx) : EReal :=
  head x g w cs sn (64 * ((i 1).val / 64)) (by have : (i 1).val < 1024 := (i 1).isLt; omega) (i 0) (i 2)
    ⟨(i 1).val % 64, Nat.mod_lt _ (by decide)⟩ * Ideal.ofBits .f32 0x3E38AA3B#32

/-- The keys. -/
def kArr (i : (⟨3, ![2, 8192, 256]⟩ : Shape).Idx) : EReal :=
  head x g w cs sn (1024 + 64 * ((i 2).val / 64)) (by have : (i 2).val < 256 := (i 2).isLt; omega) (i 0) (i 1)
    ⟨(i 2).val % 64, Nat.mod_lt _ (by decide)⟩

/-- The values, by tiles of 512 positions, each head's 64 rows with 16 rows of ones under them. -/
def vArr (i : (⟨4, ![2, 16, 320, 512]⟩ : Shape).Idx) : EReal :=
  if h : (i 2).val % 80 < 64 then lin x g w (i 0)
      ⟨512 * (i 1).val + (i 3).val, by have : (i 1).val < 16 := (i 1).isLt; have : (i 3).val < 512 := (i 3).isLt; omega⟩
      ⟨1280 + 64 * ((i 2).val / 80) + (i 2).val % 80, by have : (i 2).val < 320 := (i 2).isLt; omega⟩
  else 1

/-- The indexer's queries, positions last. -/
def qiArr (i : (⟨3, ![2, 512, 8192]⟩ : Shape).Idx) : EReal :=
  head x g w cs sn (1536 + 64 * ((i 1).val / 64)) (by have : (i 1).val < 512 := (i 1).isLt; omega) (i 0) (i 2)
    ⟨(i 1).val % 64, Nat.mod_lt _ (by decide)⟩

/-- The indexer's keys, 64 zeros beside each. -/
def kiArr (i : (⟨3, ![2, 8192, 128]⟩ : Shape).Idx) : EReal :=
  if h : (i 2).val < 64 then head x g w cs sn 2048 (by decide) (i 0) (i 1) ⟨(i 2).val, h⟩ else 0

/-- The indexer's weights, scaled, positions last. -/
def wiArr (i : (⟨3, ![2, 8, 8192]⟩ : Shape).Idx) : EReal :=
  lin x g w (i 0) (i 2) ⟨2112 + (i 1).val, by have : (i 1).val < 8 := (i 1).isLt; omega⟩ * Ideal.ofBits .f32 0x3D3504F3#32

variable {x g w cs sn}

theorem head_congr {o o' : ℕ} (ho : o + 64 ≤ 2120) (ho' : o' + 64 ≤ 2120) (h : o = o') (b : Fin 2) (s : Fin 8192) {j j' : Fin 64} (e : j = j') :
    head x g w cs sn o ho b s j = head x g w cs sn o' ho' b s j' := by
  subst h e
  rfl

theorem q_at (b : Fin 2) (e : Fin 16) (j : Fin 64) (s : Fin 8192) (h) : qArr x g w cs sn (ix3 b ⟨64 * e.val + j.val, h⟩ s)
    = head x g w cs sn (64 * e.val) (by omega) b s j * Ideal.ofBits .f32 0x3E38AA3B#32 :=
  congrArg (· * Ideal.ofBits .f32 0x3E38AA3B#32) (head_congr _ _ (by show 64 * ((64 * e.val + j.val) / 64) = 64 * e.val; omega) b s
    (Fin.ext (by show (64 * e.val + j.val) % 64 = j.val; omega)))

theorem k_at (b : Fin 2) (s : Fin 8192) (e : Fin 4) (j : Fin 64) (h) : kArr x g w cs sn (ix3 b s ⟨64 * e.val + j.val, h⟩)
    = head x g w cs sn (1024 + 64 * e.val) (by omega) b s j :=
  head_congr _ _ (by show 1024 + 64 * ((64 * e.val + j.val) / 64) = 1024 + 64 * e.val; omega) b s
    (Fin.ext (by show (64 * e.val + j.val) % 64 = j.val; omega))

theorem qi_at (b : Fin 2) (e : Fin 8) (j : Fin 64) (s : Fin 8192) (h) : qiArr x g w cs sn (ix3 b ⟨64 * e.val + j.val, h⟩ s)
    = head x g w cs sn (1536 + 64 * e.val) (by omega) b s j :=
  head_congr _ _ (by show 1536 + 64 * ((64 * e.val + j.val) / 64) = 1536 + 64 * e.val; omega) b s
    (Fin.ext (by show (64 * e.val + j.val) % 64 = j.val; omega))

theorem ki_at (b : Fin 2) (s : Fin 8192) (j : Fin 64) (h) : kiArr x g w cs sn (ix3 b s ⟨j.val, h⟩)
    = head x g w cs sn 2048 (by decide) b s j := dif_pos j.isLt

theorem ki_zero (b : Fin 2) (s : Fin 8192) (j : Fin 64) (h) : kiArr x g w cs sn (ix3 b s ⟨64 + j.val, h⟩) = 0 :=
  dif_neg (by show ¬ 64 + j.val < 64; omega)

theorem v_at (b : Fin 2) (t : Fin 16) (e : Fin 4) (j : Fin 64) (r : Fin 512) (h) : vArr x g w (ix4 b t ⟨80 * e.val + j.val, h⟩ r)
    = lin x g w b ⟨512 * t.val + r.val, by omega⟩ ⟨1280 + 64 * e.val + j.val, by omega⟩ := by
  refine (dif_pos (by show (80 * e.val + j.val) % 80 < 64; omega)).trans ?_
  refine congrArg (lin x g w b _) (Fin.ext ?_)
  show 1280 + 64 * ((80 * e.val + j.val) / 80) + (80 * e.val + j.val) % 80 = 1280 + 64 * e.val + j.val
  omega

theorem v_one (b : Fin 2) (t : Fin 16) (e : Fin 4) (j : Fin 16) (r : Fin 512) (h) :
    vArr x g w (ix4 b t ⟨80 * e.val + 64 + j.val, h⟩ r) = 1 :=
  dif_neg (by show ¬ (80 * e.val + 64 + j.val) % 80 < 64; omega)

end Arrays

/-- A number below a product is a multiple and a remainder. -/
theorem split {n K H : ℕ} (h : n = K * H) (hK : 0 < K) (c : Fin n) : ∃ (e : Fin H) (j : Fin K), ∀ h', c = ⟨K * e.val + j.val, h'⟩ := by
  subst h
  exact ⟨⟨c.val / K, Nat.div_lt_of_lt_mul c.isLt⟩, ⟨c.val % K, Nat.mod_lt _ hK⟩, fun _ => Fin.ext (Nat.div_add_mod _ _).symm⟩

end Cert.Row

end
-- ==== Proof.Body4.lean ====
/- What the body of the second layer's projection call computes, entry by entry. -/
module

public import proofs.«01_k».proof.Proof.Gen.Kernel4Ideal.Frame
public import proofs.«01_k».proof.Proof.Rope
public import Idealize.ShloMosaic.Lib.Pointwise
public import Idealize.ShloMosaic.Lib.Pipeline.Value
public import Idealize.ShloMosaic.Lib.ValueLayout
public import Idealize.ShloMosaic.Lib.Pipeline.ValueKit

@[expose] public section

noncomputable section

namespace Cert.Kernel4Ideal.Hand

open Cert.Kernel4Ideal Cert.Kernel4Ideal.Gen Cert.Row Idealize.ShloMosaic
open scoped BigOperators

/-- How far along the first axis the first `k` shapes reach. -/
def reach (n : ℕ) (ss : List Shape) (k : ℕ) : ℕ :=
  ((ss.take k).map fun s => if h : s.rank = (⟨2, ![n, 512]⟩ : Shape).rank then s.size ((0 : Fin 2).cast h.symm) else 0).sum

/-- The shapes of the pieces of `H` heads. -/
def pieces (H : ℕ) : List Shape := (List.replicate H [S8x512, S8x512, S48x512]).flatten

/-- Rows of a block concatenated along the first axis, read in piece `k`. -/
theorem piece_at {n p : ℕ} (xs : List ((s : Shape) × (s.Idx → EReal))) (hc : Shape.Concatenates (xs.map (·.1)) ⟨2, ![n, 512]⟩ 0)
    (ss : List Shape) (hs : xs.map (·.1) = ss) (k : ℕ) (f : (⟨2, ![p, 512]⟩ : Shape).Idx → EReal) (hx : xs[k]? = some ⟨⟨2, ![p, 512]⟩, f⟩) (c : Fin n) (i : Fin p) (r : Fin 512)
    (e : reach n ss k + i.val = c.val) :
    concatenate ⟨2, ![n, 512]⟩ 0 xs hc (ix2 c r) = f (ix2 i r) := by
  subst hs
  obtain ⟨hk, hx⟩ := List.getElem?_eq_some_iff.1 hx
  refine concatenate_apply_piece (t := ⟨2, ![n, 512]⟩) 0 xs hc (ix2 c r) k hk _ f hx rfl (reach n (xs.map (·.1)) k) (by unfold reach; rw [List.map_take]) (ix2 i r) ?_ ?_
  · intro b hb
    fin_cases b
    · exact absurd rfl hb
    · rfl
  · exact e

/-- Heads concatenated, each as its first half rotated, its second half rotated and the rest as it was. -/
theorem heads_at {n H : ℕ} (hn : n = 64 * H) (y : FVec Ideal ⟨2, ![n, 512]⟩ .f32) (cs sn : FVec Ideal S8x512 .f32)
    (xs : List ((s : Shape) × (s.Idx → EReal))) (hc : Shape.Concatenates (xs.map (·.1)) ⟨2, ![n, 512]⟩ 0)
    (hs : xs.map (·.1) = pieces H)
    (hp : ∀ h : Fin H, reach n (pieces H) (3 * h.val) = 64 * h.val ∧ reach n (pieces H) (3 * h.val + 1) = 64 * h.val + 8
      ∧ reach n (pieces H) (3 * h.val + 2) = 64 * h.val + 16)
    (hl : ∀ h : Fin H, (⟨2, ![n, 512]⟩ : Shape).Slices ![64 * h.val, 0] S8x512
      ∧ (⟨2, ![n, 512]⟩ : Shape).Slices ![64 * h.val + 8, 0] S8x512 ∧ (⟨2, ![n, 512]⟩ : Shape).Slices ![64 * h.val + 16, 0] S48x512)
    (hx : ∀ (h : Fin H) s₁ s₂ s₃, xs[3 * h.val]? = some ⟨S8x512, subf (mulf (extractStridedSlice S8x512 ![64 * h.val, 0] y s₁) cs)
        (mulf (extractStridedSlice S8x512 ![64 * h.val + 8, 0] y s₂) sn)⟩
      ∧ xs[3 * h.val + 1]? = some ⟨S8x512, addf (mulf (extractStridedSlice S8x512 ![64 * h.val + 8, 0] y s₂) cs)
        (mulf (extractStridedSlice S8x512 ![64 * h.val, 0] y s₁) sn)⟩
      ∧ xs[3 * h.val + 2]? = some ⟨S48x512, extractStridedSlice S48x512 ![64 * h.val + 16, 0] y s₃⟩)
    (h : Fin H) (j : Fin 64) (r : Fin 512) :
    concatenate ⟨2, ![n, 512]⟩ 0 xs hc (ix2 ⟨64 * h.val + j.val, by omega⟩ r)
    = rope (fun j => y (ix2 ⟨64 * h.val + j.val, by omega⟩ r)) (fun p => cs (ix2 p r)) (fun p => sn (ix2 p r)) j := by
  obtain ⟨s₁, s₂, s₃⟩ := hl h
  obtain ⟨x₁, x₂, x₃⟩ := hx h s₁ s₂ s₃
  obtain ⟨p₁, p₂, p₃⟩ := hp h
  have lo : ∀ i : Fin 8, extractStridedSlice S8x512 ![64 * h.val, 0] y s₁ (ix2 i r) = y (ix2 ⟨64 * h.val + i.val, by omega⟩ r) :=
    fun i => congrArg y (by funext a; fin_cases a <;> exact Fin.ext (by simp [ix2]))
  have hi : ∀ i : Fin 8, extractStridedSlice S8x512 ![64 * h.val + 8, 0] y s₂ (ix2 i r) = y (ix2 ⟨64 * h.val + (i.val + 8), by omega⟩ r) :=
    fun i => congrArg y (by funext a; fin_cases a <;> exact Fin.ext (by simp [ix2]; try omega))
  have re : ∀ i : Fin 48, extractStridedSlice S48x512 ![64 * h.val + 16, 0] y s₃ (ix2 i r) = y (ix2 ⟨64 * h.val + (i.val + 16), by omega⟩ r) :=
    fun i => congrArg y (by funext a; fin_cases a <;> exact Fin.ext (by simp [ix2]; try omega))
  unfold rope
  split
  · next hj =>
    refine (piece_at xs hc _ hs _ _ x₁ _ ⟨j.val, hj⟩ r (by rw [p₁])).trans ?_
    show extractStridedSlice S8x512 _ y s₁ (ix2 _ r) * cs _ - extractStridedSlice S8x512 _ y s₂ (ix2 _ r) * sn _ = _
    rw [lo, hi]
  · split
    · next hj hj' =>
      refine (piece_at xs hc _ hs _ _ x₂ _ ⟨j.val - 8, by omega⟩ r (by rw [p₂]; show 64 * h.val + 8 + (j.val - 8) = 64 * h.val + j.val; omega)).trans ?_
      show extractStridedSlice S8x512 _ y s₂ (ix2 _ r) * cs _ + extractStridedSlice S8x512 _ y s₁ (ix2 _ r) * sn _ = _
      rw [lo, hi]
      have e : j.val - 8 + 8 = j.val := by omega
      simp only [e]
    · next hj hj' =>
      refine (piece_at xs hc _ hs _ _ x₃ _ ⟨j.val - 16, by omega⟩ r (by rw [p₃]; show 64 * h.val + 16 + (j.val - 16) = 64 * h.val + j.val; omega)).trans ?_
      rw [re]
      have e : j.val - 16 + 16 = j.val := by omega
      simp only [e]

/-- The block's normed rows. -/
theorem pay3_apply (x0 : Vec Ideal S1x512x1024 .f32) (x1 : Vec Ideal S1x1024 .f32) (r : Fin 512) (k : Fin 1024) :
    k0_pay3 (F := Ideal) x0 x1 (ix2 r k) = rms (fun k => x0 (ix3 0 r k)) (fun k => x1 (ix2 0 k)) k := by
  unfold k0_pay3 rms
  pointwise

/-- A product with the weights on the left is the row times the weights. -/
theorem times_comm {N : ℕ} (v : Fin 1024 → EReal) (w : Fin N → Fin 1024 → EReal) (c : Fin N) :
    times v (fun k n => w n k) c = ∑ k, w c k * v k := Finset.sum_congr rfl fun _ _ => mul_comm _ _

section Products

variable (h : FVec Ideal S512x1024 .bf16) (r : Fin 512)

theorem q_times (w : Vec Ideal S1024x1024 .bf16) (x0 : Vec Ideal S1x512x1024 .f32) (x1 : Vec Ideal S1x1024 .f32) (c : Fin 1024) :
    k0_pay6 (F := Ideal) x0 x1 w (ix2 c r) = times (fun k => k0_pay3 (F := Ideal) x0 x1 (ix2 r k)) (fun k n => w (ix2 n k)) c := by
  rw [times_comm]
  unfold k0_pay6
  generalize k0_pay3 (F := Ideal) x0 x1 = h
  pointwise

theorem k_times (w : Vec Ideal S256x1024 .bf16) (c : Fin 256) :
    k0_pay85 (F := Ideal) h w (ix2 c r) = times (fun k => h (ix2 r k)) (fun k n => w (ix2 n k)) c := by
  rw [times_comm]
  unfold k0_pay85
  pointwise

theorem qi_times (w : Vec Ideal S512x1024 .bf16) (c : Fin 512) :
    k0_pay107 (F := Ideal) h w (ix2 c r) = times (fun k => h (ix2 r k)) (fun k n => w (ix2 n k)) c := by
  rw [times_comm]
  unfold k0_pay107
  pointwise

end Products

/-- A unit axis put in front. -/
theorem unsq {α : Type} {m n : ℕ} (f : (⟨2, ![m, n]⟩ : Shape).Idx → α) (hs : (⟨2, ![m, n]⟩ : Shape).ShapeCasts ⟨3, ![1, m, n]⟩)
    (r : Fin m) (c : Fin n) : shapeCast ⟨3, ![1, m, n]⟩ f hs (ix3 0 r c) = f (ix2 r c) :=
  (shapeCast_addUnit_apply ![m, n] f hs _).trans (congrArg f (by funext a; fin_cases a <;> rfl))

/-- Rounding names the same extended real. -/
theorem bf_at {s : Shape} (x : FVec Ideal s .f32) (hb) (i : s.Idx) : truncf .bf16 x hb i = x i := rfl

/-- A block rounded and turned. -/
theorem bf_turn {m n : ℕ} (x : FVec Ideal ⟨2, ![m, n]⟩ .f32) (ht : (⟨2, ![m, n]⟩ : Shape).Transposes [1, 0] ⟨2, ![n, m]⟩) (hb)
    (r : Fin n) (c : Fin m) : truncf .bf16 (transpose ⟨2, ![n, m]⟩ [1, 0] x ht) hb (ix2 r c) = x (ix2 c r) :=
  congrArg x (by funext a; fin_cases a <;> rfl)

/-- Rows `o` on of the packed weights. -/
theorem ld_rows (x : Vec Ideal S2192x1024 .bf16) (o N : ℕ) (ho : o + N ≤ 2192) (inb) (n : Fin N) (k : Fin 1024) :
    View.ld x (Rect.unit (s := S2192x1024) ![o, 0] (⟨2, ![N, 1024]⟩ : Shape).size inb) (ix2 n k) = x (ix2 ⟨o + n.val, by omega⟩ k) :=
  View.ld_unit_apply_of x _ _ _ _ _ (by intro a; fin_cases a <;> simp [ix2])

section Out

variable (x0 : Vec Ideal S1x512x1024 .f32) (x1 : Vec Ideal S1x1024 .f32) (x2 : Vec Ideal S2192x1024 .bf16)
  (x3 x4 : Vec Ideal S1x8x512 .f32)

/-- Column `c` of the packed projection of row `r` of the block. -/
def linB (r : Fin 512) (c : Fin 2192) : EReal :=
  times (rms (fun k => x0 (ix3 0 r k)) (fun k => x1 (ix2 0 k))) (fun k n => x2 (ix2 n k)) c

/-- Entry `j` of the rotated head whose rows begin at `o`. -/
def headB (o : ℕ) (ho : o + 64 ≤ 2192) (r : Fin 512) (j : Fin 64) : EReal :=
  rope (fun j => linB x0 x1 x2 r ⟨o + j.val, by omega⟩) (fun p => x3 (ix3 0 p r)) (fun p => x4 (ix3 0 p r)) j

theorem normed (r : Fin 512) (k : Fin 1024) :
    k0_pay122 x0 x1 x2 x3 x4 (ix2 r k) = rms (fun k => x0 (ix3 0 r k)) (fun k => x1 (ix2 0 k)) k := by
  unfold k0_pay122
  rw [View.ld_unit_zero (by funext a; fin_cases a <;> rfl) _ x0, View.ld_unit_zero (by funext a; fin_cases a <;> rfl) _ x1]
  exact pay3_apply x0 x1 r k

theorem cos_at (p : Fin 8) (r : Fin 512) : k0_pay123 x0 x1 x2 x3 x4 (ix2 p r) = x3 (ix3 0 p r) := by
  unfold k0_pay123 k0_pay4
  rw [View.ld_unit_zero (by funext a; fin_cases a <;> rfl) _ x3]
  pointwise

theorem sin_at (p : Fin 8) (r : Fin 512) : k0_pay124 x0 x1 x2 x3 x4 (ix2 p r) = x4 (ix3 0 p r) := by
  unfold k0_pay124 k0_pay5
  rw [View.ld_unit_zero (by funext a; fin_cases a <;> rfl) _ x4]
  pointwise

/-- A product with rows `o` on of the packed weights. -/
theorem times_rows (o N : ℕ) (ho : o + N ≤ 2192) (inb) (r : Fin 512) (c : Fin N) :
    times (fun k => k0_pay122 x0 x1 x2 x3 x4 (ix2 r k))
      (fun k n => View.ld x2 (Rect.unit (s := S2192x1024) ![o, 0] (⟨2, ![N, 1024]⟩ : Shape).size inb) (ix2 n k)) c
    = linB x0 x1 x2 r ⟨o + c.val, by omega⟩ := by
  unfold linB
  simp only [normed, times]
  exact Finset.sum_congr rfl fun k _ => congrArg (_ * ·) (ld_rows x2 o N ho inb c k)

/-- A rotated head of a product with rows `o` on of the packed weights. -/
theorem head_rows (o : ℕ) (ho : o + 64 ≤ 2192) (z : Fin 64 → EReal) (r : Fin 512) (j : Fin 64)
    (e : ∀ j, z j = linB x0 x1 x2 r ⟨o + j.val, by omega⟩) :
    rope z (fun p => k0_pay123 x0 x1 x2 x3 x4 (ix2 p r)) (fun p => k0_pay124 x0 x1 x2 x3 x4 (ix2 p r)) j
    = headB x0 x1 x2 x3 x4 o ho r j := by
  unfold headB
  simp only [cos_at, sin_at, funext e]

end Out

end Cert.Kernel4Ideal.Hand

end
-- ==== Proof.Blocks4.lean ====
/- What the projections' points leave in their blocks, of the arguments. -/
module

public import proofs.«01_k».proof.Proof.Body4
public import Idealize.ShloMosaic.Lib.Pipeline.ValueKit
public import Idealize.ShloMosaic.Lib.Claim
public import Idealize.ShloMosaic.Lib.IdealHost
public import Idealize.ShloMosaic.Lib.Pointwise

@[expose] public section

noncomputable section

namespace Cert.Kernel4Ideal.Hand

open Cert.Kernel4Ideal Cert.Kernel4Ideal.Gen Cert.Row Idealize.ShloMosaic Idealize.ShloMosaic.TcCoe Idealize.SL.Sem
open Idealize.ShloMosaic.Pipeline (Dat)
open scoped BigOperators

variable (m : (ℓ : Loc nD τ sig) → Buf (Elt Ideal) ℓ)

/-- Which block each input window is at. -/
theorem index_at : ∀ t : Fin cfg0.N, win0_0.index t = ![t.val / 16, t.val % 16, 0] ∧ win0_1.index t = ![0, 0] ∧ win0_2.index t = ![0, 0]
    ∧ win0_3.index t = ![t.val / 16, 0, t.val % 16] ∧ win0_4.index t = ![t.val / 16, 0, t.val % 16] :=
  (by decide +kernel : ∀ t : Fin grid0.N, _)

/-- Which block each output window is at. -/
theorem index_out : ∀ t : Fin cfg0.N, win0_5.index t = ![t.val / 16, 0, t.val % 16] ∧ win0_6.index t = ![t.val / 16, t.val % 16, 0]
    ∧ win0_7.index t = ![t.val / 16, t.val % 16, 0, 0] ∧ win0_8.index t = ![t.val / 16, 0, t.val % 16]
    ∧ win0_9.index t = ![t.val / 16, t.val % 16, 0] ∧ win0_10.index t = ![t.val / 16, 0, t.val % 16] :=
  (by decide +kernel : ∀ t : Fin grid0.N, _)

/-- Point `t` is at sequence `t / 16`. -/
def bat (t : Fin cfg0.N) : Fin 2 := ⟨t.val / 16, by have : t.val < 32 := t.isLt; omega⟩

/-- Row `r` of block `t` is position `512 (t % 16) + r`. -/
def pos (t : Fin cfg0.N) (r : Fin 512) : Fin 8192 := ⟨t.val % 16 * 512 + r.val, by omega⟩

theorem blk0_at (c : Dev nD) (t : Fin cfg0.N) (r : Fin 512) (k : Fin 1024) :
    iblk m c 0 t (ix3 0 r k) = m ((c : Thread nD τ).loc main_arg0) (ix3 (bat t) (pos t r) k) := by
  unfold bat pos
  blk_ext! [iblk, V, index_at t]

theorem blk1_at (c : Dev nD) (t : Fin cfg0.N) (k : Fin 1024) :
    iblk m c 1 t (ix2 0 k) = m ((c : Thread nD τ).loc main_arg1) (ix3 1 0 k) := by
  blk_ext! [iblk, V, index_at t]

theorem blk3_at (c : Dev nD) (t : Fin cfg0.N) (p : Fin 8) (r : Fin 512) :
    iblk m c 3 t (ix3 0 p r) = m ((c : Thread nD τ).loc main_arg3) (ix3 (bat t) p (pos t r)) := by
  unfold bat pos
  blk_ext! [iblk, V, index_at t]

theorem blk4_at (c : Dev nD) (t : Fin cfg0.N) (p : Fin 8) (r : Fin 512) :
    iblk m c 4 t (ix3 0 p r) = m ((c : Thread nD τ).loc main_arg4) (ix3 (bat t) p (pos t r)) := by
  unfold bat pos
  blk_ext! [iblk, V, index_at t]

/-- The weights as the host packs them: turned, sixty-four rows of zeros after the indexer's keys, eight after its weights. -/
def packed (w : FVec Ideal S1x1024x2120 .f32) : FVec Ideal S2192x1024 .bf16 :=
  truncf .bf16 (concatenate S2192x1024 0
    [⟨S2048x1024, extractStridedSlice S2048x1024 ![0, 0] (transpose S2120x1024 [1, 0] (shapeCast S1024x2120 w shapeCasts_S1x1024x2120_S1024x2120)
        transposes_S1024x2120_S2120x1024_1_0) slices_S2120x1024_S2048x1024_0_0⟩,
      ⟨S128x1024, concatenate S128x1024 0
        [⟨S64x1024, extractStridedSlice S64x1024 ![2048, 0] (transpose S2120x1024 [1, 0] (shapeCast S1024x2120 w shapeCasts_S1x1024x2120_S1024x2120)
            transposes_S1024x2120_S2120x1024_1_0) slices_S2120x1024_S64x1024_2048_0⟩,
          ⟨S64x1024, broadcastInDim S64x1024 ![] bcast_S_S64x1024 (constant S_ .f32 0x00000000#32)⟩] concatenates_S64x1024_S64x1024_S128x1024_d0⟩,
      ⟨S16x1024, concatenate S16x1024 0
        [⟨S8x1024, extractStridedSlice S8x1024 ![2112, 0] (transpose S2120x1024 [1, 0] (shapeCast S1024x2120 w shapeCasts_S1x1024x2120_S1024x2120)
            transposes_S1024x2120_S2120x1024_1_0) slices_S2120x1024_S8x1024_2112_0⟩,
          ⟨S8x1024, broadcastInDim S8x1024 ![] bcast_S_S8x1024 (constant S_ .f32 0x00000000#32)⟩] concatenates_S8x1024_S8x1024_S16x1024_d0⟩]
    concatenates_S2048x1024_S128x1024_S16x1024_S2192x1024_d0) bitsLt_bf16_f32

/-- The packed weights as the call finds them. -/
theorem V_packed (c : Dev nD) : V m c main_v10 = packed (m ((c : Thread nD τ).loc main_arg2)) := by
  show StableHlo.after hostOps0 _ main_v10 = _
  simp only [hostOps0]
  after_results_simp <;> rfl

theorem blk2_at (c : Dev nD) (t : Fin cfg0.N) (n : Fin 2192) (k : Fin 1024) :
    iblk m c 2 t (ix2 n k) = packed (m ((c : Thread nD τ).loc main_arg2)) (ix2 n k) := by
  rw [← V_packed]
  blk_ext [iblk, index_at t]

section Packed

variable (w : FVec Ideal S1x1024x2120 .f32) (k : Fin 1024)

theorem packed_low (n : Fin 2048) (h) : packed w (ix2 ⟨n.val, h⟩ k) = w (ix3 0 k ⟨n.val, by omega⟩) := by
  unfold packed
  pointwise

theorem packed_key (n : Fin 64) (h) : packed w (ix2 ⟨2048 + n.val, h⟩ k) = w (ix3 0 k ⟨2048 + n.val, by omega⟩) := by
  unfold packed
  pointwise
  rw [dif_pos (by omega)]

theorem packed_zero (n : Fin 64) (h) : packed w (ix2 ⟨2112 + n.val, h⟩ k) = 0 := by
  unfold packed
  pointwise
  rw [dif_neg (by omega), dif_pos (by omega), dif_neg (by omega)]

theorem packed_wi (n : Fin 8) (h) : packed w (ix2 ⟨2176 + n.val, h⟩ k) = w (ix3 0 k ⟨2112 + n.val, by omega⟩) := by
  unfold packed
  pointwise
  rw [dif_neg (by omega), dif_neg (by omega), dif_pos (by omega)]
  have e : 2176 + n.val - 2048 - 128 = n.val := by omega
  simp only [e]

end Packed

section Block

variable (c : Dev nD) (t : Fin cfg0.N) (r : Fin 512)

/-- The packed projection of a block's row is the row's projection, of the heads' columns. -/
theorem lin_low (n : Fin 2112) :
    linB (iblk m c 0 t) (iblk m c 1 t) (iblk m c 2 t) r ⟨n.val, by omega⟩
    = lin (m ((c : Thread nD τ).loc main_arg0)) (m ((c : Thread nD τ).loc main_arg1)) (m ((c : Thread nD τ).loc main_arg2))
        (bat t) (pos t r) ⟨n.val, by omega⟩ := by
  have e : ∀ k, iblk m c 2 t (ix2 ⟨n.val, by omega⟩ k) = m ((c : Thread nD τ).loc main_arg2) (ix3 0 k ⟨n.val, by omega⟩) := by
    intro k
    rw [blk2_at]
    by_cases h : n.val < 2048
    · exact packed_low _ k ⟨n.val, h⟩ _
    · obtain ⟨j, hj⟩ : ∃ j : Fin 64, n.val = 2048 + j.val := ⟨⟨n.val - 2048, by omega⟩, by show n.val = 2048 + (n.val - 2048); omega⟩
      simp only [hj]
      exact packed_key _ k j _
  unfold linB lin times
  simp only [e, blk0_at, blk1_at]

/-- Beside the indexer's key the packed projection is zero. -/
theorem lin_zero (n : Fin 64) : linB (iblk m c 0 t) (iblk m c 1 t) (iblk m c 2 t) r ⟨2112 + n.val, by omega⟩ = 0 := by
  unfold linB times
  simp only [blk2_at, packed_zero, mul_zero, Finset.sum_const_zero]

/-- The packed projection of a block's row is the row's projection, of the columns of the indexer's weights. -/
theorem lin_wi (n : Fin 8) :
    linB (iblk m c 0 t) (iblk m c 1 t) (iblk m c 2 t) r ⟨2176 + n.val, by omega⟩
    = lin (m ((c : Thread nD τ).loc main_arg0)) (m ((c : Thread nD τ).loc main_arg1)) (m ((c : Thread nD τ).loc main_arg2))
        (bat t) (pos t r) ⟨2112 + n.val, by omega⟩ := by
  unfold linB lin times
  simp only [blk2_at, packed_wi, blk0_at, blk1_at]

/-- A rotated head of a block's row. -/
theorem head_low (o : ℕ) (ho : o + 64 ≤ 2112) (j : Fin 64) :
    headB (iblk m c 0 t) (iblk m c 1 t) (iblk m c 2 t) (iblk m c 3 t) (iblk m c 4 t) o (by omega) r j
    = head (m ((c : Thread nD τ).loc main_arg0)) (m ((c : Thread nD τ).loc main_arg1)) (m ((c : Thread nD τ).loc main_arg2))
        (m ((c : Thread nD τ).loc main_arg3)) (m ((c : Thread nD τ).loc main_arg4)) o (by omega) (bat t) (pos t r) j := by
  unfold headB head
  simp only [blk3_at, blk4_at]
  exact congrArg (rope · _ _ j) (funext fun j => lin_low m c t r ⟨o + j.val, by omega⟩)

end Block

end Cert.Kernel4Ideal.Hand

end
-- ==== Proof.OutQ.lean ====
/- The query block the projections' body leaves, entry by entry. -/
module

public import proofs.«01_k».proof.Proof.Body4
public import Idealize.ShloMosaic.Lib.IdealHost

@[expose] public section

noncomputable section

namespace Cert.Kernel4Ideal.Hand

open Cert.Kernel4Ideal Cert.Kernel4Ideal.Gen Cert.Row Idealize.ShloMosaic
open scoped BigOperators

section Out

variable (x0 : Vec Ideal S1x512x1024 .f32) (x1 : Vec Ideal S1x1024 .f32) (x2 : Vec Ideal S2192x1024 .bf16)
  (x3 x4 : Vec Ideal S1x8x512 .f32)

set_option maxHeartbeats 1000000 in
/-- The query block. -/
theorem q_out (e : Fin 16) (j : Fin 64) (r : Fin 512) :
    out0_5 x0 x1 x2 x3 x4 (ix3 0 ⟨64 * e.val + j.val, by omega⟩ r)
    = headB x0 x1 x2 x3 x4 (64 * e.val) (by omega) r j * Ideal.ofBits .f32 0x3E38AA3B#32 := by
  unfold out0_5
  rw [View.canon_unit_zero (by funext a; fin_cases a <;> rfl)]
  unfold k0_pay84
  refine (unsq _ _ _ _).trans ((bf_at _ _ _).trans ?_)
  refine congrArg (· * Ideal.ofBits .f32 0x3E38AA3B#32) ?_
  refine (heads_at (n := 1024) (H := 16) rfl (k0_pay125 x0 x1 x2 x3 x4) (k0_pay123 x0 x1 x2 x3 x4) (k0_pay124 x0 x1 x2 x3 x4) _ _ ?_ ?_ ?_ ?_ e j r).trans
    (head_rows x0 x1 x2 x3 x4 (64 * e.val) (by omega) _ r j fun j => ?_)
  · rfl
  · decide +kernel
  · decide +kernel
  · intro e _ _ _; fin_cases e <;> exact ⟨rfl, rfl, rfl⟩
  · refine (q_times _ _ _ _ _).trans ((times_rows x0 x1 x2 x3 x4 0 1024 (by decide) _ r ⟨64 * e.val + j.val, by omega⟩).trans ?_)
    simp only [Nat.zero_add]

end Out

end Cert.Kernel4Ideal.Hand

end
-- ==== Proof.OutK.lean ====
/- The key block the projections' body leaves, entry by entry. -/
module

public import proofs.«01_k».proof.Proof.Body4
public import Idealize.ShloMosaic.Lib.IdealHost

@[expose] public section

noncomputable section

namespace Cert.Kernel4Ideal.Hand

open Cert.Kernel4Ideal Cert.Kernel4Ideal.Gen Cert.Row Idealize.ShloMosaic
open scoped BigOperators

section Out

variable (x0 : Vec Ideal S1x512x1024 .f32) (x1 : Vec Ideal S1x1024 .f32) (x2 : Vec Ideal S2192x1024 .bf16)
  (x3 x4 : Vec Ideal S1x8x512 .f32)

/-- The key block. -/
theorem k_out (e : Fin 4) (j : Fin 64) (r : Fin 512) :
    out0_6 x0 x1 x2 x3 x4 (ix3 0 r ⟨64 * e.val + j.val, by omega⟩)
    = headB x0 x1 x2 x3 x4 (1024 + 64 * e.val) (by omega) r j := by
  unfold out0_6
  rw [View.canon_unit_zero (by funext a; fin_cases a <;> rfl)]
  unfold k0_pay105
  refine (unsq _ _ _ _).trans ((bf_turn _ _ _ _ _).trans ?_)
  refine (heads_at (n := 256) (H := 4) rfl (k0_pay85 (k0_pay122 x0 x1 x2 x3 x4) (View.ld x2 r0_5)) (k0_pay123 x0 x1 x2 x3 x4) (k0_pay124 x0 x1 x2 x3 x4)
    _ _ ?_ ?_ ?_ ?_ e j r).trans
    (head_rows x0 x1 x2 x3 x4 (1024 + 64 * e.val) (by omega) _ r j fun j => ?_)
  · rfl
  · decide +kernel
  · decide +kernel
  · intro e _ _ _; fin_cases e <;> exact ⟨rfl, rfl, rfl⟩
  · refine (k_times _ _ _ _).trans ((times_rows x0 x1 x2 x3 x4 1024 256 (by decide) _ r ⟨64 * e.val + j.val, by omega⟩).trans ?_)
    simp only [Nat.add_assoc]

end Out

end Cert.Kernel4Ideal.Hand

end
-- ==== Proof.OutV.lean ====
/- The value block the projections' body leaves, entry by entry. -/
module

public import proofs.«01_k».proof.Proof.Body4
public import Idealize.ShloMosaic.Lib.IdealHost

@[expose] public section

noncomputable section

namespace Cert.Kernel4Ideal.Hand

open Cert.Kernel4Ideal Cert.Kernel4Ideal.Gen Cert.Row Idealize.ShloMosaic
open scoped BigOperators

section Out

variable (x0 : Vec Ideal S1x512x1024 .f32) (x1 : Vec Ideal S1x1024 .f32) (x2 : Vec Ideal S2192x1024 .bf16)
  (x3 x4 : Vec Ideal S1x8x512 .f32)

/-- The product of the values. -/
def vProd (h : FVec Ideal S512x1024 .bf16) (w : Vec Ideal S256x1024 .bf16) : FVec Ideal S256x512 .f32 :=
  matmul dot_S256x1024_S512x1024_S256x512_1_1_0_0_n_n none (φ₁ := .bf16) (φ₂ := .bf16) (shapeCast S256x1024 w shapeCasts_S256x1024_S256x1024) h (constant S256x512 .f32 0x00000000#32)

theorem v_times (h : FVec Ideal S512x1024 .bf16) (w : Vec Ideal S256x1024 .bf16) (r : Fin 512) (c : Fin 256) :
    vProd h w (ix2 c r) = times (fun k => h (ix2 r k)) (fun k n => w (ix2 n k)) c := by
  rw [times_comm]
  unfold vProd
  pointwise

/-- Two unit axes put in front. -/
theorem unsq4 {α : Type} {m n : ℕ} (f : (⟨2, ![m, n]⟩ : Shape).Idx → α) (hs : (⟨2, ![m, n]⟩ : Shape).ShapeCasts ⟨4, ![1, 1, m, n]⟩)
    (r : Fin m) (c : Fin n) : shapeCast ⟨4, ![1, 1, m, n]⟩ f hs (ix4 0 0 r c) = f (ix2 r c) := by
  refine shapeCast_apply _ _ _ _ ?_
  rw [rowMajor_val4 _ (1 * (m * n)) (m * n) n rfl rfl rfl, rowMajor_val2 _ n rfl]
  show r.val * n + c.val = 0 * _ + 0 * _ + r.val * n + c.val
  omega

set_option maxHeartbeats 1000000 in
/-- The value block: a row of a head. -/
theorem v_out (e : Fin 4) (j : Fin 64) (r : Fin 512) :
    out0_7 x0 x1 x2 x3 x4 (ix4 0 0 ⟨80 * e.val + j.val, by omega⟩ r) = linB x0 x1 x2 r ⟨1280 + 64 * e.val + j.val, by omega⟩ := by
  unfold out0_7
  rw [View.canon_unit_zero (by funext a; fin_cases a <;> rfl)]
  unfold k0_pay106
  refine (unsq4 _ _ _ _).trans ((bf_at _ _ _).trans ?_)
  have t := (v_times (k0_pay122 x0 x1 x2 x3 x4) (View.ld x2 r0_7) r ⟨64 * e.val + j.val, by omega⟩).trans
    (times_rows x0 x1 x2 x3 x4 1280 256 (by decide) _ r ⟨64 * e.val + j.val, by omega⟩)
  simp only [← Nat.add_assoc] at t
  rw [← t]
  refine (piece_at (n := 320) (p := 64) _ _ [S64x512, S16x512, S64x512, S16x512, S64x512, S16x512, S64x512, S16x512] rfl (2 * e.val) (extractStridedSlice S64x512 ![64 * e.val, 0] (vProd (k0_pay122 x0 x1 x2 x3 x4) (View.ld x2 r0_7))
    (by fin_cases e <;> decide)) (by fin_cases e <;> rfl) _ ⟨j.val, j.isLt⟩ r (by fin_cases e <;> rfl)).trans ?_
  refine congrArg (vProd _ _) ?_
  funext a; fin_cases a <;> exact Fin.ext (by simp [ix2])

set_option maxHeartbeats 1000000 in
/-- The value block: the rows of ones under a head. -/
theorem v_ones (e : Fin 4) (j : Fin 16) (r : Fin 512) :
    out0_7 x0 x1 x2 x3 x4 (ix4 0 0 ⟨80 * e.val + 64 + j.val, by omega⟩ r) = 1 := by
  unfold out0_7
  rw [View.canon_unit_zero (by funext a; fin_cases a <;> rfl)]
  unfold k0_pay106
  refine (unsq4 _ _ _ _).trans ((bf_at _ _ _).trans ?_)
  refine (piece_at (n := 320) (p := 16) _ _ [S64x512, S16x512, S64x512, S16x512, S64x512, S16x512, S64x512, S16x512] rfl (2 * e.val + 1) (broadcast S16x512 (Ideal.ofBits .f32 0x3F800000#32))
    (by fin_cases e <;> rfl) _ ⟨j.val, j.isLt⟩ r (by fin_cases e <;> rfl)).trans ?_
  exact Ideal.ofBits_one_f32

end Out

end Cert.Kernel4Ideal.Hand

end
-- ==== Proof.OutQi.lean ====
/- The indexer's query block the projections' body leaves, entry by entry. -/
module

public import proofs.«01_k».proof.Proof.Body4
public import Idealize.ShloMosaic.Lib.IdealHost

@[expose] public section

noncomputable section

namespace Cert.Kernel4Ideal.Hand

open Cert.Kernel4Ideal Cert.Kernel4Ideal.Gen Cert.Row Idealize.ShloMosaic
open scoped BigOperators

section Out

variable (x0 : Vec Ideal S1x512x1024 .f32) (x1 : Vec Ideal S1x1024 .f32) (x2 : Vec Ideal S2192x1024 .bf16)
  (x3 x4 : Vec Ideal S1x8x512 .f32)

/-- The indexer's query block. -/
theorem qi_out (e : Fin 8) (j : Fin 64) (r : Fin 512) :
    out0_8 x0 x1 x2 x3 x4 (ix3 0 ⟨64 * e.val + j.val, by omega⟩ r)
    = headB x0 x1 x2 x3 x4 (1536 + 64 * e.val) (by omega) r j := by
  unfold out0_8
  rw [View.canon_unit_zero (by funext a; fin_cases a <;> rfl)]
  unfold k0_pay121
  refine (unsq _ _ _ _).trans ((bf_at _ _ _).trans ?_)
  refine (heads_at (n := 512) (H := 8) rfl (k0_pay107 (k0_pay122 x0 x1 x2 x3 x4) (View.ld x2 r0_9)) (k0_pay123 x0 x1 x2 x3 x4)
    (k0_pay124 x0 x1 x2 x3 x4) _ _ ?_ ?_ ?_ ?_ e j r).trans
    (head_rows x0 x1 x2 x3 x4 (1536 + 64 * e.val) (by omega) _ r j fun j => ?_)
  · rfl
  · decide +kernel
  · decide +kernel
  · intro e _ _ _; fin_cases e <;> exact ⟨rfl, rfl, rfl⟩
  · refine (qi_times _ _ _ _).trans ((times_rows x0 x1 x2 x3 x4 1536 512 (by decide) _ r ⟨64 * e.val + j.val, by omega⟩).trans ?_)
    simp only [Nat.add_assoc]

end Out

end Cert.Kernel4Ideal.Hand

end
-- ==== Proof.OutKi.lean ====
/- The indexer's key and weight blocks the projections' body leaves, entry by entry. -/
module

public import proofs.«01_k».proof.Proof.Body4
public import Idealize.ShloMosaic.Lib.IdealHost

@[expose] public section

noncomputable section

namespace Cert.Kernel4Ideal.Hand

open Cert.Kernel4Ideal Cert.Kernel4Ideal.Gen Cert.Row Idealize.ShloMosaic
open scoped BigOperators

section Out

variable (x0 : Vec Ideal S1x512x1024 .f32) (x1 : Vec Ideal S1x1024 .f32) (x2 : Vec Ideal S2192x1024 .bf16)
  (x3 x4 : Vec Ideal S1x8x512 .f32)

/-- The product of the indexer's keys. -/
def kiProd (h : FVec Ideal S512x1024 .bf16) (w : Vec Ideal S128x1024 .bf16) : FVec Ideal S128x512 .f32 :=
  matmul dot_S128x1024_S512x1024_S128x512_1_1_0_0_n_n none (φ₁ := .bf16) (φ₂ := .bf16) (shapeCast S128x1024 w shapeCasts_S128x1024_S128x1024) h (constant S128x512 .f32 0x00000000#32)

theorem ki_times (h : FVec Ideal S512x1024 .bf16) (w : Vec Ideal S128x1024 .bf16) (r : Fin 512) (c : Fin 128) :
    kiProd h w (ix2 c r) = times (fun k => h (ix2 r k)) (fun k n => w (ix2 n k)) c := by
  rw [times_comm]
  unfold kiProd
  pointwise

/-- The first 64 rows of the product. -/
def kiHead (h : FVec Ideal S512x1024 .bf16) (w : Vec Ideal S128x1024 .bf16) : FVec Ideal S64x512 .f32 :=
  extractStridedSlice S64x512 ![0, 0] (kiProd h w) slices_S128x512_o0_0_S64x512

/-- The first 64 rows, rotated. -/
def kiTurned (h : FVec Ideal S512x1024 .bf16) (cs sn : FVec Ideal S8x512 .f32) (w : Vec Ideal S128x1024 .bf16) : FVec Ideal S64x512 .f32 :=
  concatenate S64x512 0 [⟨S8x512, subf (mulf (extractStridedSlice S8x512 ![0, 0] (kiHead h w) slices_S64x512_o0_0_S8x512) cs)
      (mulf (extractStridedSlice S8x512 ![8, 0] (kiHead h w) slices_S64x512_o8_0_S8x512) sn)⟩,
    ⟨S8x512, addf (mulf (extractStridedSlice S8x512 ![8, 0] (kiHead h w) slices_S64x512_o8_0_S8x512) cs)
      (mulf (extractStridedSlice S8x512 ![0, 0] (kiHead h w) slices_S64x512_o0_0_S8x512) sn)⟩,
    ⟨S48x512, extractStridedSlice S48x512 ![16, 0] (kiHead h w) slices_S64x512_o16_0_S48x512⟩] concatenates_S8x512_S8x512_S48x512_S64x512_d0

theorem kiTurned_apply (h : FVec Ideal S512x1024 .bf16) (cs sn : FVec Ideal S8x512 .f32) (w : Vec Ideal S128x1024 .bf16) (j : Fin 64) (r : Fin 512) :
    kiTurned h cs sn w (ix2 j r)
    = rope (fun j => kiProd h w (ix2 ⟨j.val, by omega⟩ r)) (fun p => cs (ix2 p r)) (fun p => sn (ix2 p r)) j := by
  unfold kiTurned
  have e : ix2 j r = ix2 (⟨64 * (0 : Fin 1).val + j.val, by omega⟩ : Fin 64) r := congrArg (ix2 · r) (Fin.ext (by simp))
  refine (congrArg _ e).trans ((heads_at (n := 64) (H := 1) rfl (kiHead h w) cs sn _ _ ?_ ?_ ?_ ?_ 0 j r).trans ?_)
  · rfl
  · decide +kernel
  · decide +kernel
  · intro e _ _ _; fin_cases e; exact ⟨rfl, rfl, rfl⟩
  · refine congrArg (rope · _ _ j) (funext fun j => congrArg (kiProd h w) ?_)
    funext a; fin_cases a <;> exact Fin.ext (by simp [ix2])

/-- The indexer's key block: the rotated key. -/
theorem ki_out (j : Fin 64) (r : Fin 512) :
    out0_9 x0 x1 x2 x3 x4 (ix3 0 r ⟨j.val, by omega⟩) = headB x0 x1 x2 x3 x4 2048 (by omega) r j := by
  unfold out0_9
  rw [View.canon_unit_zero (by funext a; fin_cases a <;> rfl)]
  unfold k0_pay1
  refine (unsq _ _ _ _).trans ((bf_turn _ _ _ _ _).trans ?_)
  refine (piece_at (n := 128) (p := 64) _ _ [S64x512, S64x512] rfl 0
    (kiTurned (k0_pay122 x0 x1 x2 x3 x4) (k0_pay123 x0 x1 x2 x3 x4) (k0_pay124 x0 x1 x2 x3 x4) (View.ld x2 r0_11)) rfl ⟨j.val, by omega⟩ j r
    (Nat.zero_add _)).trans ?_
  exact (kiTurned_apply _ _ _ _ _ _).trans (head_rows x0 x1 x2 x3 x4 2048 (by omega) _ r j fun j =>
    (ki_times _ _ r ⟨j.val, by omega⟩).trans (times_rows x0 x1 x2 x3 x4 2048 128 (by decide) _ r ⟨j.val, by omega⟩))

/-- The indexer's key block: the columns beside the key. -/
theorem ki_rest (j : Fin 64) (r : Fin 512) :
    out0_9 x0 x1 x2 x3 x4 (ix3 0 r ⟨64 + j.val, by omega⟩) = linB x0 x1 x2 r ⟨2112 + j.val, by omega⟩ := by
  unfold out0_9
  rw [View.canon_unit_zero (by funext a; fin_cases a <;> rfl)]
  unfold k0_pay1
  refine (unsq _ _ _ _).trans ((bf_turn _ _ _ _ _).trans ?_)
  refine (piece_at (n := 128) (p := 64) _ _ [S64x512, S64x512] rfl 1
    (extractStridedSlice S64x512 ![64, 0] (kiProd (k0_pay122 x0 x1 x2 x3 x4) (View.ld x2 r0_11)) slices_S128x512_o64_0_S64x512) rfl
    ⟨64 + j.val, by omega⟩ j r rfl).trans ?_
  refine Eq.trans ?_ ((ki_times _ _ r ⟨64 + j.val, by omega⟩).trans ((times_rows x0 x1 x2 x3 x4 2048 128 (by decide) inb_S2192x1024_S128x1024_2048_0 r ⟨64 + j.val, by omega⟩).trans ?_))
  · refine congrArg (kiProd _ _) ?_
    funext a; fin_cases a <;> exact Fin.ext (by simp [ix2])
  · refine congrArg (linB x0 x1 x2 r) (Fin.ext ?_)
    show 2048 + (64 + j.val) = 2112 + j.val
    omega

/-- The block of the indexer's weights. -/
theorem wi_out (j : Fin 8) (r : Fin 512) :
    out0_10 x0 x1 x2 x3 x4 (ix3 0 j r) = linB x0 x1 x2 r ⟨2176 + j.val, by omega⟩ * Ideal.ofBits .f32 0x3D3504F3#32 := by
  unfold out0_10
  rw [View.canon_unit_zero (by funext a; fin_cases a <;> rfl)]
  rw [← times_rows x0 x1 x2 x3 x4 2176 16 (by decide) inb_S2192x1024_S16x1024_2176_0 r ⟨j.val, by omega⟩, times_comm]
  unfold k0_pay2
  generalize k0_pay122 x0 x1 x2 x3 x4 = h
  generalize View.ld x2 r0_13 = w
  pointwise

end Out

end Cert.Kernel4Ideal.Hand

end
-- ==== Proof.Final4.lean ====
/- The arrays the projections leave. -/
module

public import proofs.«01_k».proof.Proof.Blocks4
public import proofs.«01_k».proof.Proof.OutQ
public import proofs.«01_k».proof.Proof.OutK
public import proofs.«01_k».proof.Proof.OutV
public import proofs.«01_k».proof.Proof.OutQi
public import proofs.«01_k».proof.Proof.OutKi

@[expose] public section

noncomputable section

namespace Cert.Kernel4Ideal.Hand

open Cert.Kernel4Ideal Cert.Kernel4Ideal.Gen Cert.Row Idealize.ShloMosaic Idealize.ShloMosaic.TcCoe Idealize.SL.Sem
open Idealize.ShloMosaic.Pipeline (Dat)
open scoped BigOperators

variable (m : (ℓ : Loc nD τ sig) → Buf (Elt Ideal) ℓ)

/-- Where point `t` writes its blocks with positions last. -/
theorem place5 (t : Fin cfg0.N) (n : Fin 1024) (r : Fin 512) : (win0_5.blk t).view.emb (ix3 0 n r) = ix3 (bat t) n (pos t r) := by
  unfold bat pos
  blk_ext [index_out t]

theorem place6 (t : Fin cfg0.N) (n : Fin 256) (r : Fin 512) : (win0_6.blk t).view.emb (ix3 0 r n) = ix3 (bat t) (pos t r) n := by
  unfold bat pos
  blk_ext [index_out t]

/-- The tile point `t` writes. -/
def tile (t : Fin cfg0.N) : Fin 16 := ⟨t.val % 16, by omega⟩

theorem place7 (t : Fin cfg0.N) (n : Fin 320) (r : Fin 512) : (win0_7.blk t).view.emb (ix4 0 0 n r) = ix4 (bat t) (tile t) n r := by
  unfold bat tile
  blk_ext [index_out t]

theorem place8 (t : Fin cfg0.N) (n r : Fin 512) : (win0_8.blk t).view.emb (ix3 0 n r) = ix3 (bat t) n (pos t r) := by
  unfold bat pos
  blk_ext [index_out t]

theorem place9 (t : Fin cfg0.N) (n : Fin 128) (r : Fin 512) : (win0_9.blk t).view.emb (ix3 0 r n) = ix3 (bat t) (pos t r) n := by
  unfold bat pos
  blk_ext [index_out t]

theorem place10 (t : Fin cfg0.N) (n : Fin 8) (r : Fin 512) : (win0_10.blk t).view.emb (ix3 0 n r) = ix3 (bat t) n (pos t r) := by
  unfold bat pos
  blk_ext [index_out t]

variable (c : Dev nD)

/-- The queries. -/
theorem final5 : (dats m 0 c).arrAt 5 cfg0.N
    = qArr (m ((c : Thread nD τ).loc main_arg0)) (m ((c : Thread nD τ).loc main_arg1)) (m ((c : Thread nD τ).loc main_arg2))
        (m ((c : Thread nD τ).loc main_arg3)) (m ((c : Thread nD τ).loc main_arg4)) := by
  generalize hG : qArr _ _ _ _ _ = G
  refine (dats m 0 c).arrAt_eq_of_covers 5 G (by decide +kernel) fun t hf y => ?_
  blk_simp
  rw [after0_5]
  obtain ⟨a, u, v, rfl⟩ : ∃ (a : Fin 1) (u : Fin 1024) (v : Fin 512), y = ix3 a u v := ⟨y 0, y 1, y 2, (ix3_eta y).symm⟩
  obtain rfl : a = 0 := Subsingleton.elim _ _
  obtain ⟨e, j, h⟩ := split (K := 64) (H := 16) rfl (by decide) u
  obtain rfl := h (by omega)
  refine (q_out _ _ _ _ _ e j v).trans ?_
  rw [place5, ← hG, q_at, head_low m c t v (64 * e.val) (by omega)]

/-- The keys. -/
theorem final6 : (dats m 0 c).arrAt 6 cfg0.N
    = kArr (m ((c : Thread nD τ).loc main_arg0)) (m ((c : Thread nD τ).loc main_arg1)) (m ((c : Thread nD τ).loc main_arg2))
        (m ((c : Thread nD τ).loc main_arg3)) (m ((c : Thread nD τ).loc main_arg4)) := by
  generalize hG : kArr _ _ _ _ _ = G
  refine (dats m 0 c).arrAt_eq_of_covers 6 G (by decide +kernel) fun t hf y => ?_
  blk_simp
  rw [after0_6]
  obtain ⟨a, u, v, rfl⟩ : ∃ (a : Fin 1) (u : Fin 512) (v : Fin 256), y = ix3 a u v := ⟨y 0, y 1, y 2, (ix3_eta y).symm⟩
  obtain rfl : a = 0 := Subsingleton.elim _ _
  obtain ⟨e, j, h⟩ := split (K := 64) (H := 4) rfl (by decide) v
  obtain rfl := h (by omega)
  refine (k_out _ _ _ _ _ e j u).trans ?_
  rw [place6, ← hG, k_at, head_low m c t u (1024 + 64 * e.val) (by omega)]

/-- The values. -/
theorem final7 : (dats m 0 c).arrAt 7 cfg0.N
    = vArr (m ((c : Thread nD τ).loc main_arg0)) (m ((c : Thread nD τ).loc main_arg1)) (m ((c : Thread nD τ).loc main_arg2)) := by
  generalize hG : vArr _ _ _ = G
  refine (dats m 0 c).arrAt_eq_of_covers 7 G (by decide +kernel) fun t hf y => ?_
  blk_simp
  rw [after0_7]
  obtain ⟨a, b, u, v, rfl⟩ : ∃ (a b : Fin 1) (u : Fin 320) (v : Fin 512), y = ix4 a b u v := ⟨y 0, y 1, y 2, y 3, (ix4_eta y).symm⟩
  obtain rfl : a = 0 := Subsingleton.elim _ _
  obtain rfl : b = 0 := Subsingleton.elim _ _
  rw [place7, ← hG]
  obtain ⟨e, j, h⟩ := split (K := 80) (H := 4) rfl (by decide) u
  obtain rfl := h (by omega)
  by_cases hj : j.val < 64
  · refine (v_out _ _ _ _ _ e ⟨j.val, hj⟩ v).trans ((lin_low m c t v ⟨1280 + 64 * e.val + j.val, by omega⟩).trans ?_)
    refine Eq.trans ?_ (v_at (bat t) (tile t) e ⟨j.val, hj⟩ v (by omega)).symm
    refine congrArg (lin _ _ _ (bat t) · _) (Fin.ext ?_)
    show t.val % 16 * 512 + v.val = 512 * (t.val % 16) + v.val
    omega
  · obtain ⟨i, hi⟩ : ∃ i : Fin 16, j.val = 64 + i.val := ⟨⟨j.val - 64, by omega⟩, by show j.val = 64 + (j.val - 64); omega⟩
    have ei : (⟨80 * e.val + j.val, by omega⟩ : Fin 320) = ⟨80 * e.val + 64 + i.val, by omega⟩ := Fin.ext (by show 80 * e.val + j.val = 80 * e.val + 64 + i.val; omega)
    rw [ei]
    exact (v_ones _ _ _ _ _ e i v).trans (v_one (bat t) (tile t) e i v (by omega)).symm

/-- The indexer's queries. -/
theorem final8 : (dats m 0 c).arrAt 8 cfg0.N
    = qiArr (m ((c : Thread nD τ).loc main_arg0)) (m ((c : Thread nD τ).loc main_arg1)) (m ((c : Thread nD τ).loc main_arg2))
        (m ((c : Thread nD τ).loc main_arg3)) (m ((c : Thread nD τ).loc main_arg4)) := by
  generalize hG : qiArr _ _ _ _ _ = G
  refine (dats m 0 c).arrAt_eq_of_covers 8 G (by decide +kernel) fun t hf y => ?_
  blk_simp
  rw [after0_8]
  obtain ⟨a, u, v, rfl⟩ : ∃ (a : Fin 1) (u : Fin 512) (v : Fin 512), y = ix3 a u v := ⟨y 0, y 1, y 2, (ix3_eta y).symm⟩
  obtain rfl : a = 0 := Subsingleton.elim _ _
  obtain ⟨e, j, h⟩ := split (K := 64) (H := 8) rfl (by decide) u
  obtain rfl := h (by omega)
  refine (qi_out _ _ _ _ _ e j v).trans ?_
  rw [place8, ← hG, qi_at, head_low m c t v (1536 + 64 * e.val) (by omega)]

/-- The indexer's keys. -/
theorem final9 : (dats m 0 c).arrAt 9 cfg0.N
    = kiArr (m ((c : Thread nD τ).loc main_arg0)) (m ((c : Thread nD τ).loc main_arg1)) (m ((c : Thread nD τ).loc main_arg2))
        (m ((c : Thread nD τ).loc main_arg3)) (m ((c : Thread nD τ).loc main_arg4)) := by
  generalize hG : kiArr _ _ _ _ _ = G
  refine (dats m 0 c).arrAt_eq_of_covers 9 G (by decide +kernel) fun t hf y => ?_
  blk_simp
  rw [after0_9]
  obtain ⟨a, u, v, rfl⟩ : ∃ (a : Fin 1) (u : Fin 512) (v : Fin 128), y = ix3 a u v := ⟨y 0, y 1, y 2, (ix3_eta y).symm⟩
  obtain rfl : a = 0 := Subsingleton.elim _ _
  rw [place9, ← hG]
  by_cases hv : v.val < 64
  · refine (ki_out _ _ _ _ _ ⟨v.val, hv⟩ u).trans ?_
    rw [head_low m c t u 2048 (by omega)]
    exact (ki_at (bat t) (pos t u) ⟨v.val, hv⟩ v.isLt).symm
  · obtain ⟨i, hi⟩ : ∃ i : Fin 64, v.val = 64 + i.val := ⟨⟨v.val - 64, by omega⟩, by show v.val = 64 + (v.val - 64); omega⟩
    have ev : v = ⟨64 + i.val, by have := i.isLt; omega⟩ := Fin.ext hi
    rw [ev]
    exact (ki_rest _ _ _ _ _ i u).trans ((lin_zero m c t u i).trans (ki_zero (bat t) (pos t u) i _).symm)

/-- The indexer's weights. -/
theorem final10 : (dats m 0 c).arrAt 10 cfg0.N
    = wiArr (m ((c : Thread nD τ).loc main_arg0)) (m ((c : Thread nD τ).loc main_arg1)) (m ((c : Thread nD τ).loc main_arg2)) := by
  generalize hG : wiArr _ _ _ = G
  refine (dats m 0 c).arrAt_eq_of_covers 10 G (by decide +kernel) fun t hf y => ?_
  blk_simp
  rw [after0_10]
  obtain ⟨a, u, v, rfl⟩ : ∃ (a : Fin 1) (u : Fin 8) (v : Fin 512), y = ix3 a u v := ⟨y 0, y 1, y 2, (ix3_eta y).symm⟩
  obtain rfl : a = 0 := Subsingleton.elim _ _
  refine (wi_out _ _ _ _ _ u v).trans ?_
  rw [place10, ← hG, lin_wi m c t v u]
  rfl

end Cert.Kernel4Ideal.Hand

end
-- ==== Proof.Host4.lean ====
/- What the plain program of the input projections returns, entry by entry. -/
module

public import proofs.«01_k».proof.Proof.Gen.Reference4Ideal.Run
public import proofs.«01_k».proof.Proof.Rope
public import Idealize.ShloMosaic.Lib.IdealHost
public import Idealize.ShloMosaic.Lib.Pointwise

@[expose] public section

noncomputable section

namespace Cert.Reference4Ideal.Hand

open Cert.Reference4Ideal Cert.Reference4Ideal.Gen Cert.Reference4Ideal.Value Cert.Row Idealize.ShloMosaic Idealize.ShloMosaic.TcCoe
open scoped BigOperators

/-- The first gains of the second layer. -/
def gainR (g : FVec Ideal S2x4x1024 .f32) : FVec Ideal S1024 .f32 :=
  shapeCast S1024 (extractStridedSlice S1x1024 ![0, 0] (shapeCast S4x1024 (extractStridedSlice S1x4x1024 ![1, 0, 0] g
    slices_S2x4x1024_S1x4x1024_1_0_0) shapeCasts_S1x4x1024_S4x1024) slices_S4x1024_S1x1024_0_0) shapeCasts_S1x1024_S1024

theorem gainR_apply (g : FVec Ideal S2x4x1024 .f32) (k : Fin 1024) : gainR g (ix1 k) = g (ix3 1 0 k) := by
  unfold gainR
  pointwise

/-- The plain norm of all rows. -/
def normR (y : FVec Ideal S2x8192x1024 .f32) (g : FVec Ideal S1024 .f32) : FVec Ideal S2x8192x1024 .f32 :=
  mulf (mulf y (broadcastInDim S2x8192x1024 ![0, 1, 2] bcast_S2x8192x1_S2x8192x1024_0_1_2 (Host.rsqrt (addf (Host.divf
      (broadcastInDim S2x8192x1 ![0, 1] bcast_S2x8192_S2x8192x1_0_1
        (Host.reduceAdd (mulf y y) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem normR_apply (y : FVec Ideal S2x8192x1024 .f32) (g : FVec Ideal S1024 .f32) (b : Fin 2) (s : Fin 8192) (d : Fin 1024) :
    normR y g (ix3 b s d) = rms (fun k => y (ix3 b s k)) (fun k => g (ix1 k)) d := by
  unfold normR rms
  pointwise

/-- The plain product of rows with the weights. -/
def timesR (y : FVec Ideal S2x8192x1024 .f32) (w : FVec Ideal S1x1024x2120 .f32) : FVec Ideal S2x8192x2120 .f32 :=
  Host.dotGeneral dot_S2x8192x1024_S1024x2120_S2x8192x2120_2_0_01_1_n_n none y (shapeCast _ w shapeCasts_S1x1024x2120_S1024x2120)

theorem timesR_apply (y : FVec Ideal S2x8192x1024 .f32) (w : FVec Ideal S1x1024x2120 .f32) (b : Fin 2) (s : Fin 8192) (d : Fin 2120) :
    timesR y w (ix3 b s d) = times (fun k => y (ix3 b s k)) (fun k n => w (ix3 0 k n)) d := by
  unfold timesR times
  pointwise

/-- The plain projection of the normed rows. -/
def projR (x : FVec Ideal S2x8192x1024 .f32) (g : FVec Ideal S2x4x1024 .f32) (w : FVec Ideal S1x1024x2120 .f32) : FVec Ideal S2x8192x2120 .f32 :=
  timesR (normR x (gainR g)) w

theorem projR_apply (x : FVec Ideal S2x8192x1024 .f32) (g : FVec Ideal S2x4x1024 .f32) (w : FVec Ideal S1x1024x2120 .f32)
    (b : Fin 2) (s : Fin 8192) (d : Fin 2120) : projR x g w (ix3 b s d) = lin x g w b s d := by
  unfold projR lin
  simp only [timesR_apply, normR_apply, gainR_apply]

/-- Columns `o` on. -/
theorem cols {n : ℕ} (p : FVec Ideal S2x8192x2120 .f32) (o : ℕ) (ho : o + n ≤ 2120) (hs) (b : Fin 2) (s : Fin 8192) (c : Fin n) :
    extractStridedSlice ⟨3, ![2, 8192, n]⟩ ![0, 0, o] p hs (ix3 b s c) = p (ix3 b s ⟨o + c.val, by omega⟩) :=
  congrArg p (by funext a; fin_cases a <;> exact Fin.ext (by simp [ix3]))

/-- Columns read as heads. -/
theorem as_heads {n H : ℕ} (hn : n = 64 * H) (f : FVec Ideal ⟨3, ![2, 8192, n]⟩ .f32) (hs) (b : Fin 2) (s : Fin 8192) (h : Fin H) (j : Fin 64) :
    shapeCast ⟨4, ![2, 8192, H, 64]⟩ f hs (ix4 b s h j) = f (ix3 b s ⟨64 * h.val + j.val, by omega⟩) := by
  subst hn
  refine shapeCast_apply _ _ _ _ ?_
  rw [rowMajor_val4 _ (8192 * (H * 64)) (H * 64) 64 rfl rfl rfl, rowMajor_val3 _ (8192 * (64 * H)) (64 * H) rfl rfl]
  show b.val * (8192 * (64 * H)) + s.val * (64 * H) + (64 * h.val + j.val) = b.val * (8192 * (H * 64)) + s.val * (H * 64) + h.val * 64 + j.val
  ring

/-- Heads read as columns. -/
theorem as_cols {n H : ℕ} (hn : n = 64 * H) (f : FVec Ideal ⟨4, ![2, 8192, H, 64]⟩ .f32) (hs) (b : Fin 2) (s : Fin 8192) (h : Fin H) (j : Fin 64) (hh) :
    shapeCast ⟨3, ![2, 8192, n]⟩ f hs (ix3 b s ⟨64 * h.val + j.val, hh⟩) = f (ix4 b s h j) := by
  subst hn
  refine shapeCast_apply _ _ _ _ ?_
  rw [rowMajor_val4 _ (8192 * (H * 64)) (H * 64) 64 rfl rfl rfl, rowMajor_val3 _ (8192 * (64 * H)) (64 * H) rfl rfl]
  show b.val * (8192 * (H * 64)) + s.val * (H * 64) + h.val * 64 + j.val = b.val * (8192 * (64 * H)) + s.val * (64 * H) + (64 * h.val + j.val)
  ring

section Pair

variable {H A B n : ℕ} (f : FVec Ideal ⟨4, ![2, 8192, H, A]⟩ .f32) (f' : FVec Ideal ⟨4, ![2, 8192, H, B]⟩ .f32)
  (hc : Shape.Concatenates [⟨4, ![2, 8192, H, A]⟩, ⟨4, ![2, 8192, H, B]⟩] ⟨4, ![2, 8192, H, n]⟩ 3)
  (b : Fin 2) (s : Fin 8192) (h : Fin H) (c : Fin n)

/-- Two blocks side by side along the last axis, read in the first. -/
theorem cat_fst (i : Fin A) (e : i.val = c.val) :
    concatenate ⟨4, ![2, 8192, H, n]⟩ 3 [⟨⟨4, ![2, 8192, H, A]⟩, f⟩, ⟨⟨4, ![2, 8192, H, B]⟩, f'⟩] hc (ix4 b s h c) = f (ix4 b s h i) := by
  refine concatenate_apply_piece (t := ⟨4, ![2, 8192, H, n]⟩) 3
    [⟨⟨4, ![2, 8192, H, A]⟩, f⟩, ⟨⟨4, ![2, 8192, H, B]⟩, f'⟩] hc (ix4 b s h c) 0 Nat.zero_lt_two _ f rfl rfl 0 rfl (ix4 b s h i) ?_ ?_
  · intro a ha
    fin_cases a
    · rfl
    · rfl
    · rfl
    · exact absurd rfl ha
  · exact (Nat.zero_add _).trans e

/-- Two blocks side by side along the last axis, read in the second. -/
theorem cat_snd (i : Fin B) (e : A + i.val = c.val) :
    concatenate ⟨4, ![2, 8192, H, n]⟩ 3 [⟨⟨4, ![2, 8192, H, A]⟩, f⟩, ⟨⟨4, ![2, 8192, H, B]⟩, f'⟩] hc (ix4 b s h c) = f' (ix4 b s h i) := by
  refine concatenate_apply_piece (t := ⟨4, ![2, 8192, H, n]⟩) 3
    [⟨⟨4, ![2, 8192, H, A]⟩, f⟩, ⟨⟨4, ![2, 8192, H, B]⟩, f'⟩] hc (ix4 b s h c) 1 Nat.one_lt_two _ f' rfl rfl A rfl (ix4 b s h i) ?_ ?_
  · intro a ha
    fin_cases a
    · rfl
    · rfl
    · rfl
    · exact absurd rfl ha
  · exact e

end Pair

/-- `H` heads can be cut at 8 and at 16 and put together again. -/
structure Turn (H : ℕ) : Prop where
  lo : (⟨4, ![2, 8192, H, 64]⟩ : Shape).Slices ![0, 0, 0, 0] ⟨4, ![2, 8192, H, 8]⟩
  hi : (⟨4, ![2, 8192, H, 64]⟩ : Shape).Slices ![0, 0, 0, 8] ⟨4, ![2, 8192, H, 8]⟩
  re : (⟨4, ![2, 8192, H, 64]⟩ : Shape).Slices ![0, 0, 0, 16] ⟨4, ![2, 8192, H, 48]⟩
  both : Shape.Concatenates [⟨4, ![2, 8192, H, 8]⟩, ⟨4, ![2, 8192, H, 8]⟩] ⟨4, ![2, 8192, H, 16]⟩ 3
  all : Shape.Concatenates [⟨4, ![2, 8192, H, 16]⟩, ⟨4, ![2, 8192, H, 48]⟩] ⟨4, ![2, 8192, H, 64]⟩ 3

/-- The plain rotation of `H` heads by tables spread over the heads. -/
def turnR {H : ℕ} (T : Turn H) (z : FVec Ideal ⟨4, ![2, 8192, H, 64]⟩ .f32) (cs sn : FVec Ideal ⟨4, ![2, 8192, H, 8]⟩ .f32) :
    FVec Ideal ⟨4, ![2, 8192, H, 64]⟩ .f32 :=
  concatenate ⟨4, ![2, 8192, H, 64]⟩ 3
    [⟨⟨4, ![2, 8192, H, 16]⟩, concatenate ⟨4, ![2, 8192, H, 16]⟩ 3
      [⟨⟨4, ![2, 8192, H, 8]⟩, subf (mulf (extractStridedSlice ⟨4, ![2, 8192, H, 8]⟩ ![0, 0, 0, 0] z T.lo) cs)
          (mulf (extractStridedSlice ⟨4, ![2, 8192, H, 8]⟩ ![0, 0, 0, 8] z T.hi) sn)⟩,
        ⟨⟨4, ![2, 8192, H, 8]⟩, addf (mulf (extractStridedSlice ⟨4, ![2, 8192, H, 8]⟩ ![0, 0, 0, 8] z T.hi) cs)
          (mulf (extractStridedSlice ⟨4, ![2, 8192, H, 8]⟩ ![0, 0, 0, 0] z T.lo) sn)⟩] T.both⟩,
      ⟨⟨4, ![2, 8192, H, 48]⟩, extractStridedSlice ⟨4, ![2, 8192, H, 48]⟩ ![0, 0, 0, 16] z T.re⟩] T.all

theorem turnR_apply {H : ℕ} (T : Turn H) (z : FVec Ideal ⟨4, ![2, 8192, H, 64]⟩ .f32) (cs sn : FVec Ideal ⟨4, ![2, 8192, H, 8]⟩ .f32)
    (b : Fin 2) (s : Fin 8192) (h : Fin H) (j : Fin 64) :
    turnR T z cs sn (ix4 b s h j) = rope (fun j => z (ix4 b s h j)) (fun p => cs (ix4 b s h p)) (fun p => sn (ix4 b s h p)) j := by
  have lo : ∀ i : Fin 8, extractStridedSlice ⟨4, ![2, 8192, H, 8]⟩ ![0, 0, 0, 0] z T.lo (ix4 b s h i) = z (ix4 b s h ⟨i.val, by omega⟩) :=
    fun i => congrArg z (by funext a; fin_cases a <;> exact Fin.ext (by simp [ix4]))
  have hi : ∀ i : Fin 8, extractStridedSlice ⟨4, ![2, 8192, H, 8]⟩ ![0, 0, 0, 8] z T.hi (ix4 b s h i) = z (ix4 b s h ⟨i.val + 8, by omega⟩) :=
    fun i => congrArg z (by funext a; fin_cases a <;> exact Fin.ext (by simp [ix4]; try omega))
  have re : ∀ i : Fin 48, extractStridedSlice ⟨4, ![2, 8192, H, 48]⟩ ![0, 0, 0, 16] z T.re (ix4 b s h i) = z (ix4 b s h ⟨i.val + 16, by omega⟩) :=
    fun i => congrArg z (by funext a; fin_cases a <;> exact Fin.ext (by simp [ix4]; try omega))
  unfold turnR rope
  split
  · next hj =>
    refine (cat_fst (A := 16) (B := 48) _ _ T.all b s h j ⟨j.val, by omega⟩ rfl).trans ?_
    refine (cat_fst (A := 8) (B := 8) _ _ T.both b s h _ ⟨j.val, hj⟩ rfl).trans ?_
    show extractStridedSlice _ _ z T.lo _ * cs _ - extractStridedSlice _ _ z T.hi _ * sn _ = _
    rw [lo, hi]
  · split
    · next hj hj' =>
      refine (cat_fst (A := 16) (B := 48) _ _ T.all b s h j ⟨j.val, by omega⟩ rfl).trans ?_
      refine (cat_snd (A := 8) (B := 8) _ _ T.both b s h _ ⟨j.val - 8, by omega⟩ (by
        show 8 + (j.val - 8) = j.val
        omega)).trans ?_
      show extractStridedSlice _ _ z T.hi _ * cs _ + extractStridedSlice _ _ z T.lo _ * sn _ = _
      rw [lo, hi]
      have e : j.val - 8 + 8 = j.val := by omega
      simp only [e]
    · next hj hj' =>
      refine (cat_snd _ _ _ b s h j ⟨j.val - 16, by omega⟩ (by
        show 16 + (j.val - 16) = j.val
        omega)).trans ?_
      rw [re]
      have e : j.val - 16 + 16 = j.val := by omega
      simp only [e]

/-- A table turned and given a unit axis. -/
def tabR (cs : FVec Ideal S2x8x8192 .f32) : FVec Ideal S2x8192x1x8 .f32 :=
  broadcastInDim S2x8192x1x8 ![0, 1, 3] bcast_S2x8192x8_S2x8192x1x8_0_1_3 (transpose S2x8192x8 [0, 2, 1] cs transposes_S2x8x8192_S2x8192x8_0_2_1)

theorem tabR_apply (cs : FVec Ideal S2x8x8192 .f32) (b : Fin 2) (s : Fin 8192) (p : Fin 8) : tabR cs (ix4 b s 0 p) = cs (ix3 b p s) := by
  unfold tabR
  pointwise

/-- Rotated heads of the projection's columns `o` on. -/
theorem heads_of {n H : ℕ} (hn : n = 64 * H) (T : Turn H) (x : FVec Ideal S2x8192x1024 .f32) (g : FVec Ideal S2x4x1024 .f32)
    (w : FVec Ideal S1x1024x2120 .f32) (cs sn : FVec Ideal S2x8x8192 .f32) (c' s' : FVec Ideal ⟨4, ![2, 8192, H, 8]⟩ .f32)
    (hc : ∀ b s h p, c' (ix4 b s h p) = cs (ix3 b p s)) (hs : ∀ b s h p, s' (ix4 b s h p) = sn (ix3 b p s))
    (o : ℕ) (ho : o + n ≤ 2120) (hl hk) (b : Fin 2) (s : Fin 8192) (h : Fin H) (j : Fin 64) :
    turnR T (shapeCast ⟨4, ![2, 8192, H, 64]⟩ (extractStridedSlice ⟨3, ![2, 8192, n]⟩ ![0, 0, o] (projR x g w) hl) hk) c' s' (ix4 b s h j)
    = head x g w cs sn (o + 64 * h.val) (by omega) b s j := by
  rw [turnR_apply]
  unfold head
  simp only [hc, hs]
  refine congrArg (rope · _ _ j) (funext fun j => ?_)
  rw [as_heads hn, cols _ o ho, projR_apply]
  exact congrArg (lin x g w b s) (Fin.ext (Nat.add_assoc _ _ _).symm)

end Cert.Reference4Ideal.Hand

end
-- ==== Proof.HostQ.lean ====
/- The queries of the plain program. -/
module

public import proofs.«01_k».proof.Proof.Host4

@[expose] public section

noncomputable section

namespace Cert.Reference4Ideal.Hand

open Cert.Reference4Ideal Cert.Reference4Ideal.Gen Cert.Reference4Ideal.Value Cert.Row Idealize.ShloMosaic Idealize.ShloMosaic.TcCoe
open scoped BigOperators

theorem turn16 : Turn 16 := ⟨slices_S2x8192x16x64_S2x8192x16x8_0_0_0_0, slices_S2x8192x16x64_S2x8192x16x8_0_0_0_8,
  slices_S2x8192x16x64_S2x8192x16x48_0_0_0_16, concatenates_S2x8192x16x8_S2x8192x16x8_S2x8192x16x16_d3,
  concatenates_S2x8192x16x16_S2x8192x16x48_S2x8192x16x64_d3⟩

theorem spread16 (z : FVec Ideal S2x8192x1x8 .f32) (b : Fin 2) (s : Fin 8192) (h : Fin 16) (p : Fin 8) :
    broadcastInDim S2x8192x16x8 ![0, 1, 2, 3] bcast_S2x8192x1x8_S2x8192x16x8_0_1_2_3 z (ix4 b s h p) = z (ix4 b s 0 p) := by
  pointwise

variable (x : FVec Ideal S2x8192x1024 .f32) (g : FVec Ideal S2x4x1024 .f32) (w : FVec Ideal S1x1024x2120 .f32) (cs sn : FVec Ideal S2x8x8192 .f32)

/-- The rotated queries. -/
def qT : FVec Ideal S2x8192x16x64 .f32 :=
  turnR turn16 (shapeCast _ (extractStridedSlice S2x8192x1024 ![0, 0, 0] (projR x g w) slices_S2x8192x2120_S2x8192x1024_0_0_0)
    shapeCasts_S2x8192x1024_S2x8192x16x64) (broadcastInDim S2x8192x16x8 ![0, 1, 2, 3] bcast_S2x8192x1x8_S2x8192x16x8_0_1_2_3 (tabR cs)) (broadcastInDim S2x8192x16x8 ![0, 1, 2, 3] bcast_S2x8192x1x8_S2x8192x16x8_0_1_2_3 (tabR sn))

theorem qT_apply (b : Fin 2) (s : Fin 8192) (h : Fin 16) (j : Fin 64) :
    qT x g w cs sn (ix4 b s h j) = head x g w cs sn (0 + 64 * h.val) (by omega) b s j := by
  unfold qT
  exact heads_of (n := 1024) rfl turn16 x g w cs sn _ _ (fun b s h p => (spread16 _ b s h p).trans (tabR_apply cs b s p)) (fun b s h p => (spread16 _ b s h p).trans (tabR_apply sn b s p)) 0 (by decide) _ _ b s h j

theorem flipQ (z : FVec Ideal S2x8192x1024 .f32) (b : Fin 2) (u : Fin 1024) (s : Fin 8192) :
    truncf (F := Ideal) .bf16 (transpose S2x1024x8192 [0, 2, 1] z transposes_S2x8192x1024_S2x1024x8192_0_2_1) bitsLt_bf16_f32 (ix3 b u s) = z (ix3 b s u) := by
  pointwise

def qR : FVec Ideal S2x1024x8192 .bf16 :=
  truncf .bf16 (transpose S2x1024x8192 [0, 2, 1] (shapeCast S2x8192x1024 (mulf (qT x g w cs sn)
    (broadcastInDim S2x8192x16x64 ![] bcast_S_S2x8192x16x64 (constant S_ .f32 0x3E38AA3B#32)))
    shapeCasts_S2x8192x16x64_S2x8192x1024) transposes_S2x8192x1024_S2x1024x8192_0_2_1) bitsLt_bf16_f32

theorem qR_eq : qR x g w cs sn = qArr x g w cs sn := by
  funext i
  obtain ⟨b, u, s, rfl⟩ : ∃ (b : Fin 2) (u : Fin 1024) (s : Fin 8192), i = ix3 b u s := ⟨i 0, i 1, i 2, (ix3_eta i).symm⟩
  obtain ⟨h, j, e⟩ := split (K := 64) (H := 16) rfl (by decide) u
  obtain rfl := e (by omega)
  rw [q_at]
  unfold qR
  rw [flipQ, as_cols (H := 16) rfl]
  refine congrArg (· * Ideal.ofBits .f32 0x3E38AA3B#32) ((qT_apply x g w cs sn b s h j).trans ?_)
  exact head_congr _ _ (Nat.zero_add _) b s rfl

end Cert.Reference4Ideal.Hand

end
-- ==== Proof.HostK.lean ====
/- The keys of the plain program. -/
module

public import proofs.«01_k».proof.Proof.Host4

@[expose] public section

noncomputable section

namespace Cert.Reference4Ideal.Hand

open Cert.Reference4Ideal Cert.Reference4Ideal.Gen Cert.Reference4Ideal.Value Cert.Row Idealize.ShloMosaic Idealize.ShloMosaic.TcCoe
open scoped BigOperators

theorem turn4 : Turn 4 := ⟨slices_S2x8192x4x64_S2x8192x4x8_0_0_0_0, slices_S2x8192x4x64_S2x8192x4x8_0_0_0_8,
  slices_S2x8192x4x64_S2x8192x4x48_0_0_0_16, concatenates_S2x8192x4x8_S2x8192x4x8_S2x8192x4x16_d3,
  concatenates_S2x8192x4x16_S2x8192x4x48_S2x8192x4x64_d3⟩

theorem spread4 (z : FVec Ideal S2x8192x1x8 .f32) (b : Fin 2) (s : Fin 8192) (h : Fin 4) (p : Fin 8) :
    broadcastInDim S2x8192x4x8 ![0, 1, 2, 3] bcast_S2x8192x1x8_S2x8192x4x8_0_1_2_3 z (ix4 b s h p) = z (ix4 b s 0 p) := by
  pointwise

variable (x : FVec Ideal S2x8192x1024 .f32) (g : FVec Ideal S2x4x1024 .f32) (w : FVec Ideal S1x1024x2120 .f32) (cs sn : FVec Ideal S2x8x8192 .f32)

/-- The rotated keys. -/
def kT : FVec Ideal S2x8192x4x64 .f32 :=
  turnR turn4 (shapeCast _ (extractStridedSlice S2x8192x256 ![0, 0, 1024] (projR x g w) slices_S2x8192x2120_S2x8192x256_0_0_1024)
    shapeCasts_S2x8192x256_S2x8192x4x64) (broadcastInDim S2x8192x4x8 ![0, 1, 2, 3] bcast_S2x8192x1x8_S2x8192x4x8_0_1_2_3 (tabR cs)) (broadcastInDim S2x8192x4x8 ![0, 1, 2, 3] bcast_S2x8192x1x8_S2x8192x4x8_0_1_2_3 (tabR sn))

theorem kT_apply (b : Fin 2) (s : Fin 8192) (h : Fin 4) (j : Fin 64) :
    kT x g w cs sn (ix4 b s h j) = head x g w cs sn (1024 + 64 * h.val) (by omega) b s j := by
  unfold kT
  exact heads_of (n := 256) rfl turn4 x g w cs sn _ _ (fun b s h p => (spread4 _ b s h p).trans (tabR_apply cs b s p)) (fun b s h p => (spread4 _ b s h p).trans (tabR_apply sn b s p)) 1024 (by decide) _ _ b s h j

theorem flatK (z : FVec Ideal S2x8192x256 .f32) (b : Fin 2) (s : Fin 8192) (u : Fin 256) :
    truncf (F := Ideal) .bf16 z bitsLt_bf16_f32 (ix3 b s u) = z (ix3 b s u) := by
  pointwise

def kR : FVec Ideal S2x8192x256 .bf16 :=
  truncf .bf16 (shapeCast S2x8192x256 (kT x g w cs sn) shapeCasts_S2x8192x4x64_S2x8192x256) bitsLt_bf16_f32

theorem kR_eq : kR x g w cs sn = kArr x g w cs sn := by
  funext i
  obtain ⟨b, s, u, rfl⟩ : ∃ (b : Fin 2) (s : Fin 8192) (u : Fin 256), i = ix3 b s u := ⟨i 0, i 1, i 2, (ix3_eta i).symm⟩
  obtain ⟨h, j, e⟩ := split (K := 64) (H := 4) rfl (by decide) u
  obtain rfl := e (by omega)
  rw [k_at]
  unfold kR
  rw [flatK, as_cols (H := 4) rfl]
  exact kT_apply x g w cs sn b s h j

end Cert.Reference4Ideal.Hand

end
-- ==== Proof.HostV.lean ====
/- The values and the indexer's weights of the plain program. -/
module

public import proofs.«01_k».proof.Proof.Host4

@[expose] public section

noncomputable section

namespace Cert.Reference4Ideal.Hand

open Cert.Reference4Ideal Cert.Reference4Ideal.Gen Cert.Reference4Ideal.Value Cert.Row Idealize.ShloMosaic Idealize.ShloMosaic.TcCoe
open scoped BigOperators

variable (x : FVec Ideal S2x8192x1024 .f32) (g : FVec Ideal S2x4x1024 .f32) (w : FVec Ideal S1x1024x2120 .f32) (cs sn : FVec Ideal S2x8x8192 .f32)

theorem flipW (z : FVec Ideal S2x8192x2120 .f32) (b : Fin 2) (u : Fin 8) (s : Fin 8192) :
    transpose S2x8x8192 [0, 2, 1] (mulf (extractStridedSlice S2x8192x8 ![0, 0, 2112] z slices_S2x8192x2120_S2x8192x8_0_0_2112)
      (broadcastInDim S2x8192x8 ![] bcast_S_S2x8192x8 (constant S_ .f32 0x3D3504F3#32))) transposes_S2x8192x8_S2x8x8192_0_2_1 (ix3 b u s)
    = z (ix3 b s ⟨2112 + u.val, by omega⟩) * Ideal.ofBits .f32 0x3D3504F3#32 := by
  pointwise

def wiR : FVec Ideal S2x8x8192 .f32 :=
  transpose S2x8x8192 [0, 2, 1] (mulf (extractStridedSlice S2x8192x8 ![0, 0, 2112] (projR x g w) slices_S2x8192x2120_S2x8192x8_0_0_2112)
    (broadcastInDim S2x8192x8 ![] bcast_S_S2x8192x8 (constant S_ .f32 0x3D3504F3#32))) transposes_S2x8192x8_S2x8x8192_0_2_1

theorem wiR_eq : wiR x g w = wiArr x g w := by
  funext i
  obtain ⟨b, u, s, rfl⟩ : ∃ (b : Fin 2) (u : Fin 8) (s : Fin 8192), i = ix3 b u s := ⟨i 0, i 1, i 2, (ix3_eta i).symm⟩
  unfold wiR
  rw [flipW, projR_apply]
  rfl

/-- The values with ones beside each head. -/
def onesR : FVec Ideal S2x8192x4x80 .f32 :=
  concatenate S2x8192x4x80 3 [⟨S2x8192x4x64, shapeCast _ (extractStridedSlice S2x8192x256 ![0, 0, 1280] (projR x g w)
      slices_S2x8192x2120_S2x8192x256_0_0_1280) shapeCasts_S2x8192x256_S2x8192x4x64⟩,
    ⟨S2x8192x4x16, broadcastInDim S2x8192x4x16 ![] bcast_S_S2x8192x4x16 (constant S_ .f32 0x3F800000#32)⟩]
    concatenates_S2x8192x4x64_S2x8192x4x16_S2x8192x4x80_d3

theorem flipV (z : FVec Ideal S2x16x512x320 .f32) (b : Fin 2) (t : Fin 16) (u : Fin 320) (r : Fin 512) :
    truncf (F := Ideal) .bf16 (transpose S2x16x320x512 [0, 1, 3, 2] z transposes_S2x16x512x320_S2x16x320x512_0_1_3_2) bitsLt_bf16_f32 (ix4 b t u r)
      = z (ix4 b t r u) := by
  pointwise

/-- Rows of 80 regrouped in tiles of 512 rows of 320. -/
theorem tilesV (z : FVec Ideal S2x8192x4x80 .f32) (b : Fin 2) (t : Fin 16) (h : Fin 4) (j : Fin 80) (r : Fin 512) (hu) :
    shapeCast S2x16x512x320 z shapeCasts_S2x8192x4x80_S2x16x512x320 (ix4 b t r ⟨80 * h.val + j.val, hu⟩)
      = z (ix4 b ⟨512 * t.val + r.val, by omega⟩ h j) := by
  refine shapeCast_apply _ _ _ _ ?_
  rw [rowMajor_val4 _ (8192 * (4 * 80)) (4 * 80) 80 rfl rfl rfl, rowMajor_val4 _ (16 * (512 * 320)) (512 * 320) 320 rfl rfl rfl]
  show b.val * (8192 * (4 * 80)) + (512 * t.val + r.val) * (4 * 80) + h.val * 80 + j.val
    = b.val * (16 * (512 * 320)) + t.val * (512 * 320) + r.val * 320 + (80 * h.val + j.val)
  omega

def vR : FVec Ideal S2x16x320x512 .bf16 :=
  truncf .bf16 (transpose S2x16x320x512 [0, 1, 3, 2] (shapeCast S2x16x512x320 (onesR x g w) shapeCasts_S2x8192x4x80_S2x16x512x320)
    transposes_S2x16x512x320_S2x16x320x512_0_1_3_2) bitsLt_bf16_f32

theorem onesR_fst (b : Fin 2) (s : Fin 8192) (h : Fin 4) (i : Fin 64) (j : Fin 80) (e : i.val = j.val) :
    onesR x g w (ix4 b s h j) = lin x g w b s ⟨1280 + 64 * h.val + i.val, by omega⟩ := by
  unfold onesR
  refine (cat_fst (A := 64) (B := 16) _ _ concatenates_S2x8192x4x64_S2x8192x4x16_S2x8192x4x80_d3 b s h j i e).trans ?_
  rw [as_heads (n := 256) rfl, cols (n := 256) _ 1280 (by decide), projR_apply]
  exact congrArg (lin x g w b _) (Fin.ext (Nat.add_assoc _ _ _).symm)

theorem onesR_snd (b : Fin 2) (s : Fin 8192) (h : Fin 4) (i : Fin 16) (j : Fin 80) (e : 64 + i.val = j.val) :
    onesR x g w (ix4 b s h j) = 1 := by
  unfold onesR
  exact (cat_snd (A := 64) (B := 16) _ _ concatenates_S2x8192x4x64_S2x8192x4x16_S2x8192x4x80_d3 b s h j i e).trans Ideal.ofBits_one_f32

theorem vR_eq : vR x g w = vArr x g w := by
  funext i
  obtain ⟨b, t, u, r, rfl⟩ : ∃ (b : Fin 2) (t : Fin 16) (u : Fin 320) (r : Fin 512), i = ix4 b t u r :=
    ⟨i 0, i 1, i 2, i 3, (ix4_eta i).symm⟩
  obtain ⟨h, j, e⟩ := split (K := 80) (H := 4) rfl (by decide) u
  obtain rfl := e (by omega)
  unfold vR
  rw [flipV, tilesV]
  by_cases hj : j.val < 64
  · exact (onesR_fst x g w b _ h ⟨j.val, hj⟩ j rfl).trans (v_at b t h ⟨j.val, hj⟩ r (by show 80 * h.val + j.val < 320; omega)).symm
  · obtain ⟨k, hk⟩ : ∃ k : Fin 16, j.val = 64 + k.val := ⟨⟨j.val - 64, by omega⟩, by show j.val = 64 + (j.val - 64); omega⟩
    have eu : (⟨80 * h.val + j.val, by omega⟩ : Fin 320) = ⟨80 * h.val + 64 + k.val, by omega⟩ :=
      Fin.ext (by show 80 * h.val + j.val = 80 * h.val + 64 + k.val; omega)
    rw [eu]
    exact (onesR_snd x g w b _ h k j hk.symm).trans (v_one b t h k r (by omega)).symm

end Cert.Reference4Ideal.Hand

end
-- ==== Proof.HostQi.lean ====
/- The indexer's queries of the plain program. -/
module

public import proofs.«01_k».proof.Proof.Host4

@[expose] public section

noncomputable section

namespace Cert.Reference4Ideal.Hand

open Cert.Reference4Ideal Cert.Reference4Ideal.Gen Cert.Reference4Ideal.Value Cert.Row Idealize.ShloMosaic Idealize.ShloMosaic.TcCoe
open scoped BigOperators

theorem turn8 : Turn 8 := ⟨slices_S2x8192x8x64_S2x8192x8x8_0_0_0_0, slices_S2x8192x8x64_S2x8192x8x8_0_0_0_8,
  slices_S2x8192x8x64_S2x8192x8x48_0_0_0_16, concatenates_S2x8192x8x8_S2x8192x8x8_S2x8192x8x16_d3,
  concatenates_S2x8192x8x16_S2x8192x8x48_S2x8192x8x64_d3⟩

theorem spread8 (z : FVec Ideal S2x8192x1x8 .f32) (b : Fin 2) (s : Fin 8192) (h : Fin 8) (p : Fin 8) :
    broadcastInDim S2x8192x8x8 ![0, 1, 2, 3] bcast_S2x8192x1x8_S2x8192x8x8_0_1_2_3 z (ix4 b s h p) = z (ix4 b s 0 p) := by
  pointwise

variable (x : FVec Ideal S2x8192x1024 .f32) (g : FVec Ideal S2x4x1024 .f32) (w : FVec Ideal S1x1024x2120 .f32) (cs sn : FVec Ideal S2x8x8192 .f32)

/-- The indexer's rotated queries. -/
def qiT : FVec Ideal S2x8192x8x64 .f32 :=
  turnR turn8 (shapeCast _ (extractStridedSlice S2x8192x512 ![0, 0, 1536] (projR x g w) slices_S2x8192x2120_S2x8192x512_0_0_1536)
    shapeCasts_S2x8192x512_S2x8192x8x64) (broadcastInDim S2x8192x8x8 ![0, 1, 2, 3] bcast_S2x8192x1x8_S2x8192x8x8_0_1_2_3 (tabR cs)) (broadcastInDim S2x8192x8x8 ![0, 1, 2, 3] bcast_S2x8192x1x8_S2x8192x8x8_0_1_2_3 (tabR sn))

theorem qiT_apply (b : Fin 2) (s : Fin 8192) (h : Fin 8) (j : Fin 64) :
    qiT x g w cs sn (ix4 b s h j) = head x g w cs sn (1536 + 64 * h.val) (by omega) b s j := by
  unfold qiT
  exact heads_of (n := 512) rfl turn8 x g w cs sn _ _ (fun b s h p => (spread8 _ b s h p).trans (tabR_apply cs b s p)) (fun b s h p => (spread8 _ b s h p).trans (tabR_apply sn b s p)) 1536 (by decide) _ _ b s h j

theorem flipQi (z : FVec Ideal S2x8192x512 .f32) (b : Fin 2) (u : Fin 512) (s : Fin 8192) :
    truncf (F := Ideal) .bf16 (transpose S2x512x8192 [0, 2, 1] z transposes_S2x8192x512_S2x512x8192_0_2_1) bitsLt_bf16_f32 (ix3 b u s) = z (ix3 b s u) := by
  pointwise

def qiR : FVec Ideal S2x512x8192 .bf16 :=
  truncf .bf16 (transpose S2x512x8192 [0, 2, 1] (shapeCast S2x8192x512 (qiT x g w cs sn)
    shapeCasts_S2x8192x8x64_S2x8192x512) transposes_S2x8192x512_S2x512x8192_0_2_1) bitsLt_bf16_f32

theorem qiR_eq : qiR x g w cs sn = qiArr x g w cs sn := by
  funext i
  obtain ⟨b, u, s, rfl⟩ : ∃ (b : Fin 2) (u : Fin 512) (s : Fin 8192), i = ix3 b u s := ⟨i 0, i 1, i 2, (ix3_eta i).symm⟩
  obtain ⟨h, j, e⟩ := split (K := 64) (H := 8) rfl (by decide) u
  obtain rfl := e (by omega)
  rw [qi_at]
  unfold qiR
  rw [flipQi, as_cols (H := 8) rfl]
  exact qiT_apply x g w cs sn b s h j

end Cert.Reference4Ideal.Hand

end
-- ==== Proof.HostKi.lean ====
/- The indexer's keys of the plain program. -/
module

public import proofs.«01_k».proof.Proof.Host4

@[expose] public section

noncomputable section

namespace Cert.Reference4Ideal.Hand

open Cert.Reference4Ideal Cert.Reference4Ideal.Gen Cert.Reference4Ideal.Value Cert.Row Idealize.ShloMosaic Idealize.ShloMosaic.TcCoe
open scoped BigOperators

theorem turn1 : Turn 1 := ⟨slices_S2x8192x1x64_S2x8192x1x8_0_0_0_0, slices_S2x8192x1x64_S2x8192x1x8_0_0_0_8,
  slices_S2x8192x1x64_S2x8192x1x48_0_0_0_16, concatenates_S2x8192x1x8_S2x8192x1x8_S2x8192x1x16_d3,
  concatenates_S2x8192x1x16_S2x8192x1x48_S2x8192x1x64_d3⟩

variable (x : FVec Ideal S2x8192x1024 .f32) (g : FVec Ideal S2x4x1024 .f32) (w : FVec Ideal S1x1024x2120 .f32) (cs sn : FVec Ideal S2x8x8192 .f32)

/-- The indexer's rotated keys. -/
def kiT : FVec Ideal S2x8192x1x64 .f32 :=
  turnR turn1 (shapeCast _ (extractStridedSlice S2x8192x64 ![0, 0, 2048] (projR x g w) slices_S2x8192x2120_S2x8192x64_0_0_2048)
    shapeCasts_S2x8192x64_S2x8192x1x64) (tabR cs) (tabR sn)

theorem kiT_apply (b : Fin 2) (s : Fin 8192) (h : Fin 1) (j : Fin 64) :
    kiT x g w cs sn (ix4 b s h j) = head x g w cs sn (2048 + 64 * h.val) (by omega) b s j := by
  unfold kiT
  exact heads_of (n := 64) rfl turn1 x g w cs sn _ _ (fun b s h p => by
    obtain rfl : h = 0 := Subsingleton.elim _ _
    exact tabR_apply cs b s p) (fun b s h p => by
    obtain rfl : h = 0 := Subsingleton.elim _ _
    exact tabR_apply sn b s p) 2048 (by decide) _ _ b s h j

/-- The one head as columns. -/
def keyR : FVec Ideal S2x8192x64 .f32 := shapeCast S2x8192x64 (kiT x g w cs sn) shapeCasts_S2x8192x1x64_S2x8192x64

theorem keyR_apply (b : Fin 2) (s : Fin 8192) (j : Fin 64) : keyR x g w cs sn (ix3 b s j) = head x g w cs sn 2048 (by decide) b s j := by
  have ej : j = ⟨64 * (0 : Fin 1).val + j.val, by have := j.isLt; simp⟩ := Fin.ext (by simp)
  refine (congrArg (fun j => keyR x g w cs sn (ix3 b s j)) ej).trans ?_
  unfold keyR
  exact (as_cols (H := 1) rfl (kiT x g w cs sn) _ b s 0 j _).trans (kiT_apply x g w cs sn b s 0 j)

def kiR : FVec Ideal S2x8192x128 .bf16 :=
  truncf .bf16 (concatenate S2x8192x128 2 [⟨S2x8192x64, keyR x g w cs sn⟩,
    ⟨S2x8192x64, broadcastInDim S2x8192x64 ![] bcast_S_S2x8192x64 (constant S_ .f32 0x00000000#32)⟩]
    concatenates_S2x8192x64_S2x8192x64_S2x8192x128_d2) bitsLt_bf16_f32

theorem beside_fst (z y : FVec Ideal S2x8192x64 .f32) (b : Fin 2) (s : Fin 8192) (j : Fin 64) (h) :
    concatenate S2x8192x128 2 [⟨S2x8192x64, z⟩, ⟨S2x8192x64, y⟩] concatenates_S2x8192x64_S2x8192x64_S2x8192x128_d2 (ix3 b s ⟨j.val, h⟩)
      = z (ix3 b s j) := by
  refine concatenate_apply_piece (t := S2x8192x128) 2 [⟨S2x8192x64, z⟩, ⟨S2x8192x64, y⟩] _ (ix3 b s ⟨j.val, h⟩) 0 Nat.zero_lt_two _ z rfl rfl 0 rfl
    (ix3 b s j) ?_ ?_
  · intro a ha
    fin_cases a
    · rfl
    · rfl
    · exact absurd rfl ha
  · exact Nat.zero_add _

theorem beside_snd (z y : FVec Ideal S2x8192x64 .f32) (b : Fin 2) (s : Fin 8192) (j : Fin 64) (h) :
    concatenate S2x8192x128 2 [⟨S2x8192x64, z⟩, ⟨S2x8192x64, y⟩] concatenates_S2x8192x64_S2x8192x64_S2x8192x128_d2 (ix3 b s ⟨64 + j.val, h⟩)
      = y (ix3 b s j) := by
  refine concatenate_apply_piece (t := S2x8192x128) 2 [⟨S2x8192x64, z⟩, ⟨S2x8192x64, y⟩] _ (ix3 b s ⟨64 + j.val, h⟩) 1 Nat.one_lt_two _ y rfl rfl 64 rfl
    (ix3 b s j) ?_ rfl
  intro a ha
  fin_cases a
  · rfl
  · rfl
  · exact absurd rfl ha

theorem flatKi (z : FVec Ideal S2x8192x128 .f32) (b : Fin 2) (s : Fin 8192) (u : Fin 128) :
    truncf (F := Ideal) .bf16 z bitsLt_bf16_f32 (ix3 b s u) = z (ix3 b s u) := by
  pointwise

theorem zeros (b : Fin 2) (s : Fin 8192) (j : Fin 64) :
    broadcastInDim S2x8192x64 ![] bcast_S_S2x8192x64 (constant (F := Ideal) S_ .f32 0x00000000#32) (ix3 b s j) = 0 := by
  pointwise

theorem kiR_eq : kiR x g w cs sn = kiArr x g w cs sn := by
  funext i
  obtain ⟨b, s, u, rfl⟩ : ∃ (b : Fin 2) (s : Fin 8192) (u : Fin 128), i = ix3 b s u := ⟨i 0, i 1, i 2, (ix3_eta i).symm⟩
  unfold kiR
  rw [flatKi]
  by_cases hu : u.val < 64
  · refine Eq.trans ?_ (ki_at b s ⟨u.val, hu⟩ u.isLt).symm
    exact (beside_fst _ _ b s ⟨u.val, hu⟩ u.isLt).trans (keyR_apply x g w cs sn b s _)
  · have eu : u = ⟨64 + (⟨u.val - 64, by omega⟩ : Fin 64).val, by have := u.isLt; show 64 + (u.val - 64) < 128; omega⟩ :=
      Fin.ext (by show u.val = 64 + (u.val - 64); omega)
    rw [eu]
    exact ((beside_snd _ _ b s _ _).trans (zeros b s _)).trans (ki_zero b s _ _).symm

end Cert.Reference4Ideal.Hand

end
-- ==== Proof.HostRun.lean ====
/- What a run of the plain program of the input projections leaves. -/
module

public import proofs.«01_k».proof.Proof.HostQ
public import proofs.«01_k».proof.Proof.HostK
public import proofs.«01_k».proof.Proof.HostV
public import proofs.«01_k».proof.Proof.HostQi
public import proofs.«01_k».proof.Proof.HostKi

@[expose] public section

noncomputable section

namespace Cert.Reference4Ideal.Hand

open Cert.Reference4Ideal Cert.Reference4Ideal.Gen Cert.Reference4Ideal.Value Cert.Row Idealize.ShloMosaic Idealize.ShloMosaic.TcCoe
open Idealize.SL.Sem

section Named

variable (m : (ℓ : Loc nD τ sig) → Buf (Elt Ideal) ℓ) (c : Dev nD)

set_option maxRecDepth 8192 in
theorem named_q : res_main_v118 m c = qArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (qR_eq _ _ _ _ _)
  unfold res_main_v118 qR qT turnR projR timesR normR gainR tabR
  rfl

set_option maxRecDepth 8192 in
theorem named_k : res_main_v119 m c = kArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (kR_eq _ _ _ _ _)
  unfold res_main_v119 kR kT turnR projR timesR normR gainR tabR
  rfl

set_option maxRecDepth 8192 in
theorem named_qi : res_main_v121 m c = qiArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (qiR_eq _ _ _ _ _)
  unfold res_main_v121 qiR qiT turnR projR timesR normR gainR tabR
  rfl

set_option maxRecDepth 8192 in
theorem named_ki : res_main_v122 m c = kiArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (kiR_eq _ _ _ _ _)
  unfold res_main_v122 kiR keyR kiT turnR projR timesR normR gainR tabR
  rfl

end Named

set_option maxRecDepth 8192 in
/-- Every run ends with the six results entry by entry, the arguments as launched. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = qArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v119) = kArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v120) = vArr (m ((c.tc : Thread nD τ).loc main_arg0)) (m ((c.tc : Thread nD τ).loc main_arg1)) (m ((c.tc : Thread nD τ).loc main_arg2))
      ∧ r.2.mem ((c.tc : Thread nD τ).loc main_v121) = qiArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v122) = kiArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v123) = wiArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨hq, hk, hv, hqi, hki, hwi, h'⟩ := h c
    refine ⟨hq.trans (named_q m c), hk.trans (named_k m c), hv.trans ?_, hqi.trans (named_qi m c), hki.trans (named_ki m c), hwi.trans ?_, h'⟩
    · refine Eq.trans ?_ (vR_eq _ _ _)
      unfold vR onesR projR timesR normR gainR
      rfl
    · refine Eq.trans ?_ (wiR_eq _ _ _)
      unfold wiR projR timesR normR gainR
      rfl)
    (run (F := Ideal) m ρ)

end Cert.Reference4Ideal.Hand

end
-- ==== Proof.Pair4.lean ====
/- The claims of the input projections of the second layer. -/
module

public import proofs.«01_k».proof.Defs
public import proofs.«01_k».proof.Proof.Gen.Kernel4.Frame
public import proofs.«01_k».proof.Proof.Gen.Kernel4Ideal.Value
public import proofs.«01_k».proof.Proof.Final4
public import proofs.«01_k».proof.Proof.HostRun
public import Idealize.ShloMosaic.Lib.Quiescent

@[expose] public section

noncomputable section

namespace Cert.Proof

open Idealize.ShloMosaic Idealize.ShloMosaic.TcCoe Idealize.SL.Sem

/-- The plain program ends, its arguments as launched; it has no semaphore. -/
theorem quiescent_reference4 : Cert.quiescent_Reference4Ideal (hReference4Ideal := Cert.Reference4Ideal.Gen.facts) := fun m ρ _ =>
  (θ_run Cert.Reference4Ideal.defs _ _).mono
    (fun r h => ⟨fun c => (h c).2.2.2.2.2.2, sem_eq_zero_of_no_sems (by decide) r.2⟩)
    (Cert.Reference4Ideal.Hand.run_rows m ρ)

/-- Both programs return the six arrays named in `Cert.Row`. -/
theorem algebraic4 : Cert.algebraic_Kernel4Ideal_Reference4Ideal (hKernel4Ideal := Cert.Kernel4Ideal.Gen.facts)
    (hReference4Ideal := Cert.Reference4Ideal.Gen.facts) := fun m g m' g' _ e =>
  ⟨fun c => (Cert.Kernel4Ideal.Gen.dats m 0 c).arrAt 5 Cert.Kernel4Ideal.cfg0.N, fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, Cert.Kernel4Ideal.Value.run_blocks m g,
    (θ_run Cert.Reference4Ideal.defs _ _).mono
      (fun _ h c => by
        obtain ⟨e0, e1, e2, e3, e4⟩ := e c
        obtain ⟨hq, hk, hv, hqi, hki, hwi, h'⟩ := h c
        rw [e0, e1, e2, e3, e4] at hq hk hqi hki
        rw [e0, e1, e2] at hv hwi
        exact ⟨hq.trans (Cert.Kernel4Ideal.Hand.final5 m c).symm, hk.trans (Cert.Kernel4Ideal.Hand.final6 m c).symm,
          hv.trans (Cert.Kernel4Ideal.Hand.final7 m c).symm, hqi.trans (Cert.Kernel4Ideal.Hand.final8 m c).symm,
          hki.trans (Cert.Kernel4Ideal.Hand.final9 m c).symm, hwi.trans (Cert.Kernel4Ideal.Hand.final10 m c).symm, h'⟩)
      (Cert.Reference4Ideal.Hand.run_rows m' g')⟩

end Cert.Proof

end
-- ==== Proof.lean ====
/- The claims of `Cert.Claim`, proved. -/
module

public import proofs.«01_k».proof.Defs
public import proofs.«01_k».proof.Proof.Gen.Kernel
public import proofs.«01_k».proof.Proof.Run
public import proofs.«01_k».proof.Proof.Pair2
public import proofs.«01_k».proof.Proof.Pair3
public import proofs.«01_k».proof.Proof.Pair4

@[expose] public section

noncomputable section

namespace Cert.Proof

open Idealize.ShloMosaic Idealize.ShloMosaic.TcCoe Idealize.SL.Sem

/-- The sparse attention call of version 05 ends, leaves its six inputs as they were and every semaphore counter at zero. -/
theorem quiescent_kernel : Cert.quiescent_Kernel (hKernel := Cert.Kernel.Gen.facts) := fun m ρ _ =>
  (θ_run Cert.Kernel.defs _ _).mono
    (fun _ h => ⟨fun c => ⟨Cert.Kernel.Hand.final_in h.1 c 0 rfl, Cert.Kernel.Hand.final_in h.1 c 1 rfl,
      Cert.Kernel.Hand.final_in h.1 c 2 rfl, Cert.Kernel.Hand.final_in h.1 c 3 rfl,
      Cert.Kernel.Hand.final_in h.1 c 4 rfl, Cert.Kernel.Hand.final_in h.1 c 5 rfl⟩, h.2⟩)
    (Cert.Kernel.Hand.run_main (F := Bits) m ρ)

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    quiescent_kernel, fun m ρ _ => Cert.Kernel2.Gen.frame m ρ, fun m ρ _ => Cert.Kernel2Ideal.Gen.frame m ρ, quiescent_reference2,
    fun m ρ _ => Cert.Kernel3.Gen.frame m ρ, fun m ρ _ => Cert.Kernel3Ideal.Gen.frame m ρ, quiescent_reference3,
    fun m ρ _ => Cert.Kernel4.Gen.frame m ρ, fun m ρ _ => Cert.Kernel4Ideal.Gen.frame m ρ, quiescent_reference4,
    trivial, algebraic2, trivial, algebraic3, trivial, algebraic4⟩

end Cert.Proof

end
